-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def preserves_Kernel_KernelIdeal : Prop :=
  True

def algebraic_KernelIdeal_MixerRefIdeal [hKernelIdeal : Cert.KernelIdeal.Facts] [hMixerRefIdeal : Cert.MixerRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_KernelIdeal m →
    (∀ c : Dev Cert.KernelIdeal.nD,
      m' ((c.tc : Thread Cert.MixerRefIdeal.nD Cert.MixerRefIdeal.τ).loc Cert.MixerRefIdeal.main_arg0) = m ((c.tc : Thread Cert.KernelIdeal.nD Cert.KernelIdeal.τ).loc Cert.KernelIdeal.main_arg0)
      ∧ m' ((c.tc : Thread Cert.MixerRefIdeal.nD Cert.MixerRefIdeal.τ).loc Cert.MixerRefIdeal.main_arg1) = m ((c.tc : Thread Cert.KernelIdeal.nD Cert.KernelIdeal.τ).loc Cert.KernelIdeal.main_arg1)
      ∧ m' ((c.tc : Thread Cert.MixerRefIdeal.nD Cert.MixerRefIdeal.τ).loc Cert.MixerRefIdeal.main_arg2) = m ((c.tc : Thread Cert.KernelIdeal.nD Cert.KernelIdeal.τ).loc Cert.KernelIdeal.main_arg2)
      ∧ m' ((c.tc : Thread Cert.MixerRefIdeal.nD Cert.MixerRefIdeal.τ).loc Cert.MixerRefIdeal.main_arg3) = m ((c.tc : Thread Cert.KernelIdeal.nD Cert.KernelIdeal.τ).loc Cert.KernelIdeal.main_arg3)
      ∧ m' ((c.tc : Thread Cert.MixerRefIdeal.nD Cert.MixerRefIdeal.τ).loc Cert.MixerRefIdeal.main_arg4) = m ((c.tc : Thread Cert.KernelIdeal.nD Cert.KernelIdeal.τ).loc Cert.KernelIdeal.main_arg4)
      ∧ m' ((c.tc : Thread Cert.MixerRefIdeal.nD Cert.MixerRefIdeal.τ).loc Cert.MixerRefIdeal.main_arg5) = m ((c.tc : Thread Cert.KernelIdeal.nD Cert.KernelIdeal.τ).loc Cert.KernelIdeal.main_arg5)
      ∧ m' ((c.tc : Thread Cert.MixerRefIdeal.nD Cert.MixerRefIdeal.τ).loc Cert.MixerRefIdeal.main_arg6) = m ((c.tc : Thread Cert.KernelIdeal.nD Cert.KernelIdeal.τ).loc Cert.KernelIdeal.main_arg6)
      ∧ m' ((c.tc : Thread Cert.MixerRefIdeal.nD Cert.MixerRefIdeal.τ).loc Cert.MixerRefIdeal.main_arg7) = m ((c.tc : Thread Cert.KernelIdeal.nD Cert.KernelIdeal.τ).loc Cert.KernelIdeal.main_arg7)
      ∧ m' ((c.tc : Thread Cert.MixerRefIdeal.nD Cert.MixerRefIdeal.τ).loc Cert.MixerRefIdeal.main_arg8) = m ((c.tc : Thread Cert.KernelIdeal.nD Cert.KernelIdeal.τ).loc Cert.KernelIdeal.main_arg8)
      ∧ m' ((c.tc : Thread Cert.MixerRefIdeal.nD Cert.MixerRefIdeal.τ).loc Cert.MixerRefIdeal.main_arg9) = m ((c.tc : Thread Cert.KernelIdeal.nD Cert.KernelIdeal.τ).loc Cert.KernelIdeal.main_arg9)
      ∧ m' ((c.tc : Thread Cert.MixerRefIdeal.nD Cert.MixerRefIdeal.τ).loc Cert.MixerRefIdeal.main_arg10) = m ((c.tc : Thread Cert.KernelIdeal.nD Cert.KernelIdeal.τ).loc Cert.KernelIdeal.main_arg10)
      ∧ m' ((c.tc : Thread Cert.MixerRefIdeal.nD Cert.MixerRefIdeal.τ).loc Cert.MixerRefIdeal.main_arg11) = m ((c.tc : Thread Cert.KernelIdeal.nD Cert.KernelIdeal.τ).loc Cert.KernelIdeal.main_arg11)
      ∧ m' ((c.tc : Thread Cert.MixerRefIdeal.nD Cert.MixerRefIdeal.τ).loc Cert.MixerRefIdeal.main_arg12) = m ((c.tc : Thread Cert.KernelIdeal.nD Cert.KernelIdeal.τ).loc Cert.KernelIdeal.main_arg12)
      ∧ m' ((c.tc : Thread Cert.MixerRefIdeal.nD Cert.MixerRefIdeal.τ).loc Cert.MixerRefIdeal.main_arg13) = m ((c.tc : Thread Cert.KernelIdeal.nD Cert.KernelIdeal.τ).loc Cert.KernelIdeal.main_arg13)
      ∧ m' ((c.tc : Thread Cert.MixerRefIdeal.nD Cert.MixerRefIdeal.τ).loc Cert.MixerRefIdeal.main_arg14) = m ((c.tc : Thread Cert.KernelIdeal.nD Cert.KernelIdeal.τ).loc Cert.KernelIdeal.main_arg14)
      ∧ m' ((c.tc : Thread Cert.MixerRefIdeal.nD Cert.MixerRefIdeal.τ).loc Cert.MixerRefIdeal.main_arg15) = m ((c.tc : Thread Cert.KernelIdeal.nD Cert.KernelIdeal.τ).loc Cert.KernelIdeal.main_arg15)
      ∧ m' ((c.tc : Thread Cert.MixerRefIdeal.nD Cert.MixerRefIdeal.τ).loc Cert.MixerRefIdeal.main_arg16) = m ((c.tc : Thread Cert.KernelIdeal.nD Cert.KernelIdeal.τ).loc Cert.KernelIdeal.main_arg16)
      ∧ m' ((c.tc : Thread Cert.MixerRefIdeal.nD Cert.MixerRefIdeal.τ).loc Cert.MixerRefIdeal.main_arg17) = m ((c.tc : Thread Cert.KernelIdeal.nD Cert.KernelIdeal.τ).loc Cert.KernelIdeal.main_arg17)
      ∧ m' ((c.tc : Thread Cert.MixerRefIdeal.nD Cert.MixerRefIdeal.τ).loc Cert.MixerRefIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v36_1)) (v1 : (c : Dev Cert.KernelIdeal.nD) → Buf (Elt Ideal) ((c.tc : Thread Cert.KernelIdeal.nD Cert.KernelIdeal.τ).loc Cert.KernelIdeal.main_v36_2)) (v2 : (c : Dev Cert.KernelIdeal.nD) → Buf (Elt Ideal) ((c.tc : Thread Cert.KernelIdeal.nD Cert.KernelIdeal.τ).loc Cert.KernelIdeal.main_v36_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_1) = v0 c
          ∧ r.2.mem ((c.tc : Thread Cert.KernelIdeal.nD Cert.KernelIdeal.τ).loc Cert.KernelIdeal.main_v36_2) = v1 c
          ∧ r.2.mem ((c.tc : Thread Cert.KernelIdeal.nD Cert.KernelIdeal.τ).loc Cert.KernelIdeal.main_v36_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v55) = v0 c
          ∧ r.2.mem ((c.tc : Thread Cert.MixerRefIdeal.nD Cert.MixerRefIdeal.τ).loc Cert.MixerRefIdeal.main_v61) = v1 c
          ∧ r.2.mem ((c.tc : Thread Cert.MixerRefIdeal.nD Cert.MixerRefIdeal.τ).loc Cert.MixerRefIdeal.main_v68) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16)
          ∧ r.2.mem ((c.tc : Thread Cert.MixerRefIdeal.nD Cert.MixerRefIdeal.τ).loc Cert.MixerRefIdeal.main_arg17) = m' ((c.tc : Thread Cert.MixerRefIdeal.nD Cert.MixerRefIdeal.τ).loc Cert.MixerRefIdeal.main_arg17)
          ∧ r.2.mem ((c.tc : Thread Cert.MixerRefIdeal.nD Cert.MixerRefIdeal.τ).loc Cert.MixerRefIdeal.main_arg18) = m' ((c.tc : Thread Cert.MixerRefIdeal.nD Cert.MixerRefIdeal.τ).loc Cert.MixerRefIdeal.main_arg18))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v7)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v7) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v53) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v7)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v7) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v40) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def Claim : Prop :=
  ∃ (hKernel : Cert.Kernel.Facts) (hKernelIdeal : Cert.KernelIdeal.Facts) (hMixerRefIdeal : Cert.MixerRefIdeal.Facts) (hFfn : Cert.Ffn.Facts) (hFfnIdeal : Cert.FfnIdeal.Facts) (hFfnRefIdeal : Cert.FfnRefIdeal.Facts) (hFfnSample : Cert.FfnSample.Facts) (hFfnSampleIdeal : Cert.FfnSampleIdeal.Facts) (hFfnSampleRefIdeal : Cert.FfnSampleRefIdeal.Facts) (hAda : Cert.Ada.Facts) (hAdaIdeal : Cert.AdaIdeal.Facts) (hAdaRefIdeal : Cert.AdaRefIdeal.Facts) (hFfnFirst : Cert.FfnFirst.Facts) (hFfnFirstIdeal : Cert.FfnFirstIdeal.Facts) (hFfnFirstRefIdeal : Cert.FfnFirstRefIdeal.Facts),
    quiescent_Kernel (hKernel := hKernel)
    ∧ quiescent_KernelIdeal (hKernelIdeal := hKernelIdeal)
    ∧ quiescent_MixerRefIdeal (hMixerRefIdeal := hMixerRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_Ada (hAda := hAda)
    ∧ quiescent_AdaIdeal (hAdaIdeal := hAdaIdeal)
    ∧ quiescent_AdaRefIdeal (hAdaRefIdeal := hAdaRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ preserves_Kernel_KernelIdeal
    ∧ algebraic_KernelIdeal_MixerRefIdeal (hKernelIdeal := hKernelIdeal) (hMixerRefIdeal := hMixerRefIdeal)
    ∧ preserves_Ffn_FfnIdeal
    ∧ algebraic_FfnIdeal_FfnRefIdeal (hFfnIdeal := hFfnIdeal) (hFfnRefIdeal := hFfnRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_Ada_AdaIdeal
    ∧ algebraic_AdaIdeal_AdaRefIdeal (hAdaIdeal := hAdaIdeal) (hAdaRefIdeal := hAdaRefIdeal)
    ∧ preserves_FfnFirst_FfnFirstIdeal
    ∧ algebraic_FfnFirstIdeal_FfnFirstRefIdeal (hFfnFirstIdeal := hFfnFirstIdeal) (hFfnFirstRefIdeal := hFfnFirstRefIdeal)
-- ==== Kernel.lean ====
abbrev S32x64x1024 : Shape := ⟨3, ![32, 64, 1024]⟩
abbrev S32x6144 : Shape := ⟨2, ![32, 6144]⟩
abbrev S2x32x2x256 : Shape := ⟨4, ![2, 32, 2, 256]⟩
abbrev S2x32x30x256 : Shape := ⟨4, ![2, 32, 30, 256]⟩
abbrev S2x32x3x1536 : Shape := ⟨4, ![2, 32, 3, 1536]⟩
abbrev S2x32x4x128x128 : Shape := ⟨5, ![2, 32, 4, 128, 128]⟩
abbrev S2x1024 : Shape := ⟨2, ![2, 1024]⟩
abbrev S2x1024x3336 : Shape := ⟨3, ![2, 1024, 3336]⟩
abbrev S2x3x256 : Shape := ⟨3, ![2, 3, 256]⟩
abbrev S2x31x256 : Shape := ⟨3, ![2, 31, 256]⟩
abbrev S2x256 : Shape := ⟨2, ![2, 256]⟩
abbrev S2x4x1536 : Shape := ⟨3, ![2, 4, 1536]⟩
abbrev S2x4 : Shape := ⟨2, ![2, 4]⟩
abbrev S2x128 : Shape := ⟨2, ![2, 128]⟩
abbrev S2x1024x1024 : Shape := ⟨3, ![2, 1024, 1024]⟩
abbrev S_ : Shape := ⟨0, ![]⟩
abbrev S2x1024x3456 : Shape := ⟨3, ![2, 1024, 3456]⟩
abbrev S1x1024 : Shape := ⟨2, ![1, 1024]⟩
abbrev S1024 : Shape := ⟨1, ![1024]⟩
abbrev S1x3x256 : Shape := ⟨3, ![1, 3, 256]⟩
abbrev S3x256 : Shape := ⟨2, ![3, 256]⟩
abbrev S1x31x256 : Shape := ⟨3, ![1, 31, 256]⟩
abbrev S31x256 : Shape := ⟨2, ![31, 256]⟩
abbrev S1x256 : Shape := ⟨2, ![1, 256]⟩
abbrev S256 : Shape := ⟨1, ![256]⟩
abbrev S1x4x1536 : Shape := ⟨3, ![1, 4, 1536]⟩
abbrev S4x1536 : Shape := ⟨2, ![4, 1536]⟩
abbrev S1x4 : Shape := ⟨2, ![1, 4]⟩
abbrev S4 : Shape := ⟨1, ![4]⟩
abbrev S128 : Shape := ⟨1, ![128]⟩
abbrev S1x128 : Shape := ⟨2, ![1, 128]⟩
abbrev S32x1x6144 : Shape := ⟨3, ![32, 1, 6144]⟩
abbrev S32x2x256 : Shape := ⟨3, ![32, 2, 256]⟩
abbrev S32x30x256 : Shape := ⟨3, ![32, 30, 256]⟩
abbrev S32x3x1536 : Shape := ⟨3, ![32, 3, 1536]⟩
abbrev S32x4x128x128 : Shape := ⟨4, ![32, 4, 128, 128]⟩
abbrev S8x64x1024 : Shape := ⟨3, ![8, 64, 1024]⟩
abbrev S8x1x6144 : Shape := ⟨3, ![8, 1, 6144]⟩
abbrev S1x1024x3456 : Shape := ⟨3, ![1, 1024, 3456]⟩
abbrev S1x1024x1024 : Shape := ⟨3, ![1, 1024, 1024]⟩
abbrev S1x8x2x256 : Shape := ⟨4, ![1, 8, 2, 256]⟩
abbrev S1x8x30x256 : Shape := ⟨4, ![1, 8, 30, 256]⟩
abbrev S1x8x3x1536 : Shape := ⟨4, ![1, 8, 3, 1536]⟩
abbrev S1x8x4x128x128 : Shape := ⟨5, ![1, 8, 4, 128, 128]⟩
abbrev S8x2x256 : Shape := ⟨3, ![8, 2, 256]⟩
abbrev S8x30x256 : Shape := ⟨3, ![8, 30, 256]⟩
abbrev S8x3x1536 : Shape := ⟨3, ![8, 3, 1536]⟩
abbrev S8x4x128x128 : Shape := ⟨4, ![8, 4, 128, 128]⟩
abbrev S2x8x72x256 : Shape := ⟨4, ![2, 8, 72, 256]⟩
abbrev S2x8x64x256 : Shape := ⟨4, ![2, 8, 64, 256]⟩
abbrev S2x8x96x256 : Shape := ⟨4, ![2, 8, 96, 256]⟩
abbrev S2x8x72x1536 : Shape := ⟨4, ![2, 8, 72, 1536]⟩
abbrev S2x8x64x512 : Shape := ⟨4, ![2, 8, 64, 512]⟩
abbrev S2x8x64x128 : Shape := ⟨4, ![2, 8, 64, 128]⟩
abbrev S8x2x64x1536 : Shape := ⟨4, ![8, 2, 64, 1536]⟩
abbrev S8x2x64x512 : Shape := ⟨4, ![8, 2, 64, 512]⟩
abbrev S8x2x64x128 : Shape := ⟨4, ![8, 2, 64, 128]⟩
abbrev S64x128 : Shape := ⟨2, ![64, 128]⟩
abbrev S1x64x1024 : Shape := ⟨3, ![1, 64, 1024]⟩
abbrev S64x1024 : Shape := ⟨2, ![64, 1024]⟩
abbrev S1x1x6144 : Shape := ⟨3, ![1, 1, 6144]⟩
abbrev S1x6144 : Shape := ⟨2, ![1, 6144]⟩
abbrev S64 : Shape := ⟨1, ![64]⟩
abbrev S64x1 : Shape := ⟨2, ![64, 1]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S64x256 : Shape := ⟨2, ![64, 256]⟩
abbrev S1x1x64x256 : Shape := ⟨4, ![1, 1, 64, 256]⟩
abbrev S1x1024x512 : Shape := ⟨3, ![1, 1024, 512]⟩
abbrev S1024x512 : Shape := ⟨2, ![1024, 512]⟩
abbrev S512x512 : Shape := ⟨2, ![512, 512]⟩
abbrev S1x1024x128 : Shape := ⟨3, ![1, 1024, 128]⟩
abbrev S1024x128 : Shape := ⟨2, ![1024, 128]⟩
abbrev S512x128 : Shape := ⟨2, ![512, 128]⟩
abbrev S1x1x64x128 : Shape := ⟨4, ![1, 1, 64, 128]⟩
abbrev S1x1x96x256 : Shape := ⟨4, ![1, 1, 96, 256]⟩
abbrev S96x256 : Shape := ⟨2, ![96, 256]⟩
abbrev S1x1x72x256 : Shape := ⟨4, ![1, 1, 72, 256]⟩
abbrev S72x256 : Shape := ⟨2, ![72, 256]⟩
abbrev S64x512 : Shape := ⟨2, ![64, 512]⟩
abbrev S1x1x64x512 : Shape := ⟨4, ![1, 1, 64, 512]⟩
abbrev S1x1x72x512 : Shape := ⟨4, ![1, 1, 72, 512]⟩
abbrev S72x512 : Shape := ⟨2, ![72, 512]⟩
abbrev S4x512 : Shape := ⟨2, ![4, 512]⟩
abbrev S1x512 : Shape := ⟨2, ![1, 512]⟩
abbrev S1x8x8x256 : Shape := ⟨4, ![1, 8, 8, 256]⟩
abbrev S8x8x256 : Shape := ⟨3, ![8, 8, 256]⟩
abbrev S1x8x32x256 : Shape := ⟨4, ![1, 8, 32, 256]⟩
abbrev S8x32x256 : Shape := ⟨3, ![8, 32, 256]⟩
abbrev S1x8x8x1536 : Shape := ⟨4, ![1, 8, 8, 1536]⟩
abbrev S8x8x1536 : Shape := ⟨3, ![8, 8, 1536]⟩
abbrev S1x1x128x128 : Shape := ⟨4, ![1, 1, 128, 128]⟩
abbrev S128x128 : Shape := ⟨2, ![128, 128]⟩
abbrev S1x1x64x1536 : Shape := ⟨4, ![1, 1, 64, 1536]⟩
abbrev S64x1536 : Shape := ⟨2, ![64, 1536]⟩
abbrev S128x64 : Shape := ⟨2, ![128, 64]⟩
abbrev S1x1 : Shape := ⟨2, ![1, 1]⟩
abbrev S1x64 : Shape := ⟨2, ![1, 64]⟩
abbrev S128x256 : Shape := ⟨2, ![128, 256]⟩
abbrev S256x1024 : Shape := ⟨2, ![256, 1024]⟩
abbrev S1024x1024 : Shape := ⟨2, ![1024, 1024]⟩

abbrev nBuf : Space → Nat
  | .hbm => 66
  | .vmem => 45
  | .smem => 0
  | _ => 0

abbrev bufTy : (tb : Table) → Fin (tcTables nBuf tb) → BufTy
  | .hbm, ⟨0, _⟩ => ⟨S32x64x1024, .f32⟩
  | .hbm, ⟨1, _⟩ => ⟨S32x6144, .f32⟩
  | .hbm, ⟨2, _⟩ => ⟨S2x32x2x256, .f32⟩
  | .hbm, ⟨3, _⟩ => ⟨S2x32x30x256, .f32⟩
  | .hbm, ⟨4, _⟩ => ⟨S2x32x3x1536, .f32⟩
  | .hbm, ⟨5, _⟩ => ⟨S2x32x4x128x128, .f32⟩
  | .hbm, ⟨6, _⟩ => ⟨S2x1024, .f32⟩
  | .hbm, ⟨7, _⟩ => ⟨S2x1024x3336, .f32⟩
  | .hbm, ⟨8, _⟩ => ⟨S2x3x256, .f32⟩
  | .hbm, ⟨9, _⟩ => ⟨S2x31x256, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S2x4x1536, .f32⟩
  | .hbm, ⟨14, _⟩ => ⟨S2x4, .f32⟩
  | .hbm, ⟨15, _⟩ => ⟨S2x4, .f32⟩
  | .hbm, ⟨16, _⟩ => ⟨S2x128, .f32⟩
  | .hbm, ⟨17, _⟩ => ⟨S2x1024x1024, .f32⟩
  | .hbm, ⟨18, _⟩ => ⟨S2x1024, .f32⟩
  | .hbm, ⟨19, _⟩ => ⟨S_, .i32⟩
  | .hbm, ⟨20, _⟩ => ⟨S_, .f32⟩
  | .hbm, ⟨21, _⟩ => ⟨S2x1024x3456, .f32⟩
  | .hbm, ⟨22, _⟩ => ⟨S2x1024x3456, .bf16⟩
  | .hbm, ⟨23, _⟩ => ⟨S2x1024x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x3x256, .f32⟩
  | .hbm, ⟨28, _⟩ => ⟨S3x256, .f32⟩
  | .hbm, ⟨29, _⟩ => ⟨S1x31x256, .f32⟩
  | .hbm, ⟨30, _⟩ => ⟨S31x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S1x256, .f32⟩
  | .hbm, ⟨38, _⟩ => ⟨S256, .f32⟩
  | .hbm, ⟨39, _⟩ => ⟨S1x256, .f32⟩
  | .hbm, ⟨40, _⟩ => ⟨S1x4x1536, .f32⟩
  | .hbm, ⟨41, _⟩ => ⟨S4x1536, .f32⟩
  | .hbm, ⟨42, _⟩ => ⟨S1x4, .f32⟩
  | .hbm, ⟨43, _⟩ => ⟨S4, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S1x4, .f32⟩
  | .hbm, ⟨49, _⟩ => ⟨S4, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S32x1x6144, .f32⟩
  | .hbm, ⟨61, _⟩ => ⟨S32x64x1024, .f32⟩
  | .hbm, ⟨62, _⟩ => ⟨S32x2x256, .f32⟩
  | .hbm, ⟨63, _⟩ => ⟨S32x30x256, .f32⟩
  | .hbm, ⟨64, _⟩ => ⟨S32x3x1536, .f32⟩
  | .hbm, ⟨65, _⟩ => ⟨S32x4x128x128, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S8x1x6144, .f32⟩
  | .local _ .vmem, ⟨5, _⟩ => ⟨S8x1x6144, .f32⟩
  | .local _ .vmem, ⟨6, _⟩ => ⟨S1x1024, .f32⟩
  | .local _ .vmem, ⟨7, _⟩ => ⟨S1x1024x3456, .bf16⟩
  | .local _ .vmem, ⟨8, _⟩ => ⟨S3x256, .f32⟩
  | .local _ .vmem, ⟨9, _⟩ => ⟨S31x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4x1536, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1024x1024, .bf16⟩
  | .local _ .vmem, ⟨18, _⟩ => ⟨S1x8x2x256, .f32⟩
  | .local _ .vmem, ⟨19, _⟩ => ⟨S1x8x2x256, .f32⟩
  | .local _ .vmem, ⟨20, _⟩ => ⟨S1x8x30x256, .f32⟩
  | .local _ .vmem, ⟨21, _⟩ => ⟨S1x8x30x256, .f32⟩
  | .local _ .vmem, ⟨22, _⟩ => ⟨S1x8x3x1536, .f32⟩
  | .local _ .vmem, ⟨23, _⟩ => ⟨S1x8x3x1536, .f32⟩
  | .local _ .vmem, ⟨24, _⟩ => ⟨S1x8x4x128x128, .f32⟩
  | .local _ .vmem, ⟨25, _⟩ => ⟨S1x8x4x128x128, .f32⟩
  | .local _ .vmem, ⟨26, _⟩ => ⟨S8x64x1024, .f32⟩
  | .local _ .vmem, ⟨27, _⟩ => ⟨S8x64x1024, .f32⟩
  | .local _ .vmem, ⟨28, _⟩ => ⟨S8x2x256, .f32⟩
  | .local _ .vmem, ⟨29, _⟩ => ⟨S8x2x256, .f32⟩
  | .local _ .vmem, ⟨30, _⟩ => ⟨S8x30x256, .f32⟩
  | .local _ .vmem, ⟨31, _⟩ => ⟨S8x30x256, .f32⟩
  | .local _ .vmem, ⟨32, _⟩ => ⟨S8x3x1536, .f32⟩
  | .local _ .vmem, ⟨33, _⟩ => ⟨S8x3x1536, .f32⟩
  | .local _ .vmem, ⟨34, _⟩ => ⟨S8x4x128x128, .f32⟩
  | .local _ .vmem, ⟨35, _⟩ => ⟨S8x4x128x128, .f32⟩
  | .local _ .vmem, ⟨36, _⟩ => ⟨S2x8x72x256, .f32⟩
  | .local _ .vmem, ⟨37, _⟩ => ⟨S2x8x64x256, .f32⟩
  | .local _ .vmem, ⟨38, _⟩ => ⟨S2x8x96x256, .f32⟩
  | .local _ .vmem, ⟨39, _⟩ => ⟨S2x8x72x1536, .f32⟩
  | .local _ .vmem, ⟨40, _⟩ => ⟨S2x8x64x512, .f32⟩
  | .local _ .vmem, ⟨41, _⟩ => ⟨S2x8x64x128, .f32⟩
  | .local _ .vmem, ⟨42, _⟩ => ⟨S8x2x64x1536, .f32⟩
  | .local _ .vmem, ⟨43, _⟩ => ⟨S8x2x64x512, .bf16⟩
  | .local _ .vmem, ⟨44, _⟩ => ⟨S8x2x64x128, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_0 : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_1 : Ref sig .tc := ⟨.hbm, 50, rfl⟩
abbrev main_call2_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v36_3 : Ref sig .tc := ⟨.hbm, 64, rfl⟩
abbrev main_v36_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32_48 : BitVec 32 := 0#32
  let v175 : BitVec 1 := Scalar.cmpi .eq arg1 c0_i32_48
  let v176 : BitVec 32 := Scalar.extui v175
  let c0_i32_49 : BitVec 32 := 0#32
  let v177 : BitVec 1 := Scalar.cmpi .ne v176 c0_i32_49
  v177

@[reducible] def k0_t1_loop : Scf.Loop 32 :=
  let c0_i32_617 : BitVec 32 := 0#32
  let c8_i32_618 : BitVec 32 := 8#32
  let v889 : BitVec 32 := Scalar.addi c0_i32_617 c8_i32_618
  let c1_i32_619 : BitVec 32 := 1#32
  ⟨c0_i32_617, v889, c1_i32_619⟩
def k0_off1 (k0_t1 : Fin k0_t1_loop.trips) : Fin 4 → Nat :=
  let c0_621 : Index := 0#32
  let c0_i32_617 : BitVec 32 := 0#32
  let c1_i32_619 : BitVec 32 := 1#32
  let arg35 : BitVec 32 := Scf.iv c0_i32_617 c1_i32_619 k0_t1
  let v890 : Index := Scalar.indexCast arg35
  let c0_622 : Index := 0#32
  let c0_623 : Index := 0#32
  ![0, v890.toNat, 0, 0]
def k0_off2 (k0_t1 : Fin k0_t1_loop.trips) : Fin 4 → Nat :=
  let c0_638 : Index := 0#32
  let c0_i32_617 : BitVec 32 := 0#32
  let c1_i32_619 : BitVec 32 := 1#32
  let arg35 : BitVec 32 := Scf.iv c0_i32_617 c1_i32_619 k0_t1
  let v1085 : Index := Scalar.indexCast arg35
  let c0_639 : Index := 0#32
  let c0_640 : Index := 0#32
  ![0, v1085.toNat, 0, 0]
def k0_off3 (k0_t1 : Fin k0_t1_loop.trips) : Fin 4 → Nat :=
  let c0_641 : Index := 0#32
  let c0_i32_617 : BitVec 32 := 0#32
  let c1_i32_619 : BitVec 32 := 1#32
  let arg35 : BitVec 32 := Scf.iv c0_i32_617 c1_i32_619 k0_t1
  let v1104 : Index := Scalar.indexCast arg35
  let c0_642 : Index := 0#32
  let c0_643 : Index := 0#32
  ![0, v1104.toNat, 0, 0]
def k0_off4 (k0_t1 : Fin k0_t1_loop.trips) : Fin 4 → Nat :=
  let c0_i32_617 : BitVec 32 := 0#32
  let c1_i32_619 : BitVec 32 := 1#32
  let arg35 : BitVec 32 := Scf.iv c0_i32_617 c1_i32_619 k0_t1
  let v1118 : Index := Scalar.indexCast arg35
  let c0_647 : Index := 0#32
  let c0_648 : Index := 0#32
  let c0_649 : Index := 0#32
  ![v1118.toNat, 0, 0, 0]
def k0_off5 (k0_t1 : Fin k0_t1_loop.trips) : Fin 4 → Nat :=
  let c0_650 : Index := 0#32
  let c0_i32_617 : BitVec 32 := 0#32
  let c1_i32_619 : BitVec 32 := 1#32
  let arg35 : BitVec 32 := Scf.iv c0_i32_617 c1_i32_619 k0_t1
  let v1122 : Index := Scalar.indexCast arg35
  let c0_651 : Index := 0#32
  let c0_652 : Index := 0#32
  ![0, v1122.toNat, 0, 0]
def k0_off6 (k0_t1 : Fin k0_t1_loop.trips) : Fin 4 → Nat :=
  let c0_i32_617 : BitVec 32 := 0#32
  let c1_i32_619 : BitVec 32 := 1#32
  let arg35 : BitVec 32 := Scf.iv c0_i32_617 c1_i32_619 k0_t1
  let v1201 : Index := Scalar.indexCast arg35
  let c0_670 : Index := 0#32
  let c0_671 : Index := 0#32
  let c0_672 : Index := 0#32
  ![v1201.toNat, 0, 0, 0]
def k0_off7 (k0_t1 : Fin k0_t1_loop.trips) : Fin 4 → Nat :=
  let c0_673 : Index := 0#32
  let c0_i32_617 : BitVec 32 := 0#32
  let c1_i32_619 : BitVec 32 := 1#32
  let arg35 : BitVec 32 := Scf.iv c0_i32_617 c1_i32_619 k0_t1
  let v1205 : Index := Scalar.indexCast arg35
  let c0_674 : Index := 0#32
  let c512_675 : Index := 512#32
  ![0, v1205.toNat, 0, 512]
def k0_off8 (k0_t1 : Fin k0_t1_loop.trips) : Fin 4 → Nat :=
  let c0_i32_617 : BitVec 32 := 0#32
  let c1_i32_619 : BitVec 32 := 1#32
  let arg35 : BitVec 32 := Scf.iv c0_i32_617 c1_i32_619 k0_t1
  let v1284 : Index := Scalar.indexCast arg35
  let c0_694 : Index := 0#32
  let c0_695 : Index := 0#32
  let c512_696 : Index := 512#32
  ![v1284.toNat, 0, 0, 512]
def k0_off9 (k0_t1 : Fin k0_t1_loop.trips) : Fin 4 → Nat :=
  let c0_697 : Index := 0#32
  let c0_i32_617 : BitVec 32 := 0#32
  let c1_i32_619 : BitVec 32 := 1#32
  let arg35 : BitVec 32 := Scf.iv c0_i32_617 c1_i32_619 k0_t1
  let v1288 : Index := Scalar.indexCast arg35
  let c0_698 : Index := 0#32
  let c1024_699 : Index := 1024#32
  ![0, v1288.toNat, 0, 1024]
def k0_off10 (k0_t1 : Fin k0_t1_loop.trips) : Fin 4 → Nat :=
  let c0_i32_617 : BitVec 32 := 0#32
  let c1_i32_619 : BitVec 32 := 1#32
  let arg35 : BitVec 32 := Scf.iv c0_i32_617 c1_i32_619 k0_t1
  let v1322 : Index := Scalar.indexCast arg35
  let c0_706 : Index := 0#32
  let c0_707 : Index := 0#32
  let c1024_708 : Index := 1024#32
  ![v1322.toNat, 0, 0, 1024]
def k0_off11 (k0_t1 : Fin k0_t1_loop.trips) : Fin 4 → Nat :=
  let c0_709 : Index := 0#32
  let c0_i32_617 : BitVec 32 := 0#32
  let c1_i32_619 : BitVec 32 := 1#32
  let arg35 : BitVec 32 := Scf.iv c0_i32_617 c1_i32_619 k0_t1
  let v1326 : Index := Scalar.indexCast arg35
  let c0_710 : Index := 0#32
  let c0_711 : Index := 0#32
  ![0, v1326.toNat, 0, 0]
def k0_off12 (k0_t1 : Fin k0_t1_loop.trips) : Fin 4 → Nat :=
  let c0_i32_617 : BitVec 32 := 0#32
  let c1_i32_619 : BitVec 32 := 1#32
  let arg35 : BitVec 32 := Scf.iv c0_i32_617 c1_i32_619 k0_t1
  let v1367 : Index := Scalar.indexCast arg35
  let c0_731 : Index := 0#32
  let c0_732 : Index := 0#32
  let c0_733 : Index := 0#32
  ![v1367.toNat, 0, 0, 0]
def k0_off13 (i : grid0.Coords) : Fin 4 → Nat :=
  let arg1 : BitVec 32 := BitVec.ofNat 32 (i 1).val
  let c2_i32 : BitVec 32 := 2#32
  let v0 : BitVec 32 := Scalar.remsi arg1 c2_i32
  let v178 : Index := Scalar.indexCast v0
  let c0_50 : Index := 0#32
  let c64 : Index := 64#32
  let c0_51 : Index := 0#32
  ![v178.toNat, 0, 64, 0]
def k0_off14 (i : grid0.Coords) : Fin 4 → Nat :=
  let c1_i32_52 : BitVec 32 := 1#32
  let arg1 : BitVec 32 := BitVec.ofNat 32 (i 1).val
  let c2_i32 : BitVec 32 := 2#32
  let v0 : BitVec 32 := Scalar.remsi arg1 c2_i32
  let v181 : BitVec 32 := Scalar.subi c1_i32_52 v0
  let v182 : Index := Scalar.indexCast v181
  let c0_53 : Index := 0#32
  let c0_54 : Index := 0#32
  let c0_55 : Index := 0#32
  ![v182.toNat, 0, 0, 0]
def k0_off15 (i : grid0.Coords) : Fin 4 → Nat :=
  let arg1 : BitVec 32 := BitVec.ofNat 32 (i 1).val
  let c2_i32 : BitVec 32 := 2#32
  let v0 : BitVec 32 := Scalar.remsi arg1 c2_i32
  let v186 : Index := Scalar.indexCast v0
  let c0_56 : Index := 0#32
  let c64_57 : Index := 64#32
  let c0_58 : Index := 0#32
  ![v186.toNat, 0, 64, 0]
def k0_off16 (i : grid0.Coords) : Fin 4 → Nat :=
  let c1_i32_59 : BitVec 32 := 1#32
  let arg1 : BitVec 32 := BitVec.ofNat 32 (i 1).val
  let c2_i32 : BitVec 32 := 2#32
  let v0 : BitVec 32 := Scalar.remsi arg1 c2_i32
  let v189 : BitVec 32 := Scalar.subi c1_i32_59 v0
  let v190 : Index := Scalar.indexCast v189
  let c0_60 : Index := 0#32
  let c0_61 : Index := 0#32
  let c0_62 : Index := 0#32
  ![v190.toNat, 0, 0, 0]
def k0_off17 (i : grid0.Coords) : Fin 4 → Nat :=
  let arg1 : BitVec 32 := BitVec.ofNat 32 (i 1).val
  let c2_i32 : BitVec 32 := 2#32
  let v0 : BitVec 32 := Scalar.remsi arg1 c2_i32
  let v194 : Index := Scalar.indexCast v0
  let c0_63 : Index := 0#32
  let c64_64 : Index := 64#32
  let c0_65 : Index := 0#32
  ![v194.toNat, 0, 64, 0]
def k0_off18 (i : grid0.Coords) : Fin 4 → Nat :=
  let c1_i32_66 : BitVec 32 := 1#32
  let arg1 : BitVec 32 := BitVec.ofNat 32 (i 1).val
  let c2_i32 : BitVec 32 := 2#32
  let v0 : BitVec 32 := Scalar.remsi arg1 c2_i32
  let v197 : BitVec 32 := Scalar.subi c1_i32_66 v0
  let v198 : Index := Scalar.indexCast v197
  let c0_67 : Index := 0#32
  let c0_68 : Index := 0#32
  let c0_69 : Index := 0#32
  ![v198.toNat, 0, 0, 0]
@[reducible] def k0_t2_loop : Scf.Loop 32 :=
  let c0_i32_70 : BitVec 32 := 0#32
  let c2_i32_71 : BitVec 32 := 2#32
  let v202 : BitVec 32 := Scalar.addi c0_i32_70 c2_i32_71
  let c1_i32_72 : BitVec 32 := 1#32
  ⟨c0_i32_70, v202, c1_i32_72⟩
def k0_off19 (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v217 : Index := Scalar.indexCast v207
  let c0_86 : Index := 0#32
  let c0_87 : Index := 0#32
  let c0_88 : Index := 0#32
  ![v217.toNat, 0, 0, 0]
def k0_off20 (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v220 : Index := Scalar.indexCast v207
  let c1 : Index := 1#32
  let c0_89 : Index := 0#32
  let c0_90 : Index := 0#32
  ![v220.toNat, 1, 0, 0]
def k0_off21 (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v223 : Index := Scalar.indexCast v207
  let c2 : Index := 2#32
  let c0_91 : Index := 0#32
  let c0_92 : Index := 0#32
  ![v223.toNat, 2, 0, 0]
def k0_off22 (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v226 : Index := Scalar.indexCast v207
  let c3 : Index := 3#32
  let c0_93 : Index := 0#32
  let c0_94 : Index := 0#32
  ![v226.toNat, 3, 0, 0]
def k0_off23 (i : grid0.Coords) (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v265 : Index := Scalar.indexCast v207
  let arg1 : BitVec 32 := BitVec.ofNat 32 (i 1).val
  let c1_i32_83 : BitVec 32 := 1#32
  let v214 : BitVec 32 := Scalar.muli arg1 c1_i32_83
  let c0_i32_84 : BitVec 32 := 0#32
  let v215 : BitVec 32 := Scalar.addi v214 c0_i32_84
  let c2_i32_85 : BitVec 32 := 2#32
  let v216 : BitVec 32 := Scalar.remsi v215 c2_i32_85
  let v266 : Index := Scalar.indexCast v216
  let c0_131 : Index := 0#32
  let c0_132 : Index := 0#32
  ![v265.toNat, v266.toNat, 0, 0]
def k0_off24 (i : grid0.Coords) (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v281 : Index := Scalar.indexCast v207
  let arg1 : BitVec 32 := BitVec.ofNat 32 (i 1).val
  let c1_i32_83 : BitVec 32 := 1#32
  let v214 : BitVec 32 := Scalar.muli arg1 c1_i32_83
  let c0_i32_84 : BitVec 32 := 0#32
  let v215 : BitVec 32 := Scalar.addi v214 c0_i32_84
  let c2_i32_85 : BitVec 32 := 2#32
  let v216 : BitVec 32 := Scalar.remsi v215 c2_i32_85
  let v282 : Index := Scalar.indexCast v216
  let c0_139 : Index := 0#32
  let c0_140 : Index := 0#32
  ![v281.toNat, v282.toNat, 0, 0]
def k0_off25 (i : grid0.Coords) (k0_t2 : Fin k0_t2_loop.trips) (c0_i32_77 : BitVec 32) : Fin 4 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v297 : Index := Scalar.indexCast v207
  let arg1 : BitVec 32 := BitVec.ofNat 32 (i 1).val
  let c1_i32_83 : BitVec 32 := 1#32
  let v214 : BitVec 32 := Scalar.muli arg1 c1_i32_83
  let c0_i32_84 : BitVec 32 := 0#32
  let v215 : BitVec 32 := Scalar.addi v214 c0_i32_84
  let c2_i32_85 : BitVec 32 := 2#32
  let v216 : BitVec 32 := Scalar.remsi v215 c2_i32_85
  let v298 : Index := Scalar.indexCast v216
  let c0_147 : Index := 0#32
  let c0_148 : Index := 0#32
  ![v297.toNat, v298.toNat, 0, 0]
def k0_off26 (i : grid0.Coords) (k0_t2 : Fin k0_t2_loop.trips) (c0_i32_77 : BitVec 32) : Fin 4 → Nat :=
  let arg1 : BitVec 32 := BitVec.ofNat 32 (i 1).val
  let c2_i32 : BitVec 32 := 2#32
  let v0 : BitVec 32 := Scalar.remsi arg1 c2_i32
  let v313 : Index := Scalar.indexCast v0
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v314 : Index := Scalar.indexCast v207
  let c0_155 : Index := 0#32
  let c0_156 : Index := 0#32
  ![v313.toNat, v314.toNat, 0, 0]
def k0_off27 (i : grid0.Coords) (k0_t2 : Fin k0_t2_loop.trips) (c0_i32_77 : BitVec 32) : Fin 4 → Nat :=
  let arg1 : BitVec 32 := BitVec.ofNat 32 (i 1).val
  let c2_i32 : BitVec 32 := 2#32
  let v0 : BitVec 32 := Scalar.remsi arg1 c2_i32
  let v329 : Index := Scalar.indexCast v0
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v330 : Index := Scalar.indexCast v207
  let c0_163 : Index := 0#32
  let c0_164 : Index := 0#32
  ![v329.toNat, v330.toNat, 0, 0]
def k0_off28 (k0_t2 : Fin k0_t2_loop.trips) (c0_i32_77 : BitVec 32) : Fin 3 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v2411 : Index := Scalar.indexCast v207
  let c0_667 : Index := 0#32
  let c0_668 : Index := 0#32
  ![v2411.toNat, 0, 0]
def k0_off29 (k0_t2 : Fin k0_t2_loop.trips) (c0_i32_77 : BitVec 32) : Fin 3 → Nat :=
  let c0_i32_70 : BitVec 32 := 0#32
  let c1_i32_72 : BitVec 32 := 1#32
  let arg35 : BitVec 32 := Scf.iv c0_i32_70 c1_i32_72 k0_t2
  let c4_i32_76 : BitVec 32 := 4#32
  let v206 : BitVec 32 := Scalar.muli arg35 c4_i32_76
  let v207 : BitVec 32 := Scalar.addi v206 c0_i32_77
  let v2415 : Index := Scalar.indexCast v207
  let c0_669 : Index := 0#32
  let c0_670 : Index := 0#32
  ![v2415.toNat, 0, 0]
def k0_cond2 (i : grid0.Coords) : BitVec 1 :=
  let arg1 : BitVec 32 := BitVec.ofNat 32 (i 1).val
  let c0_i32_74 : BitVec 32 := 0#32
  let v203 : BitVec 1 := Scalar.cmpi .eq arg1 c0_i32_74
  let v204 : BitVec 32 := Scalar.extui v203
  let c0_i32_75 : BitVec 32 := 0#32
  let v205 : BitVec 1 := Scalar.cmpi .ne v204 c0_i32_75
  v205

def k0_off30 (i : grid0.Coords) : Fin 4 → Nat :=
  let arg1 : BitVec 32 := BitVec.ofNat 32 (i 1).val
  let c2_i32 : BitVec 32 := 2#32
  let v0 : BitVec 32 := Scalar.remsi arg1 c2_i32
  let v206 : Index := Scalar.indexCast v0
  let c0_76 : Index := 0#32
  let c70 : Index := 70#32
  let c0_77 : Index := 0#32
  ![v206.toNat, 0, 70, 0]
def k0_off31 (i : grid0.Coords) : Fin 4 → Nat :=
  let arg1 : BitVec 32 := BitVec.ofNat 32 (i 1).val
  let c2_i32 : BitVec 32 := 2#32
  let v0 : BitVec 32 := Scalar.remsi arg1 c2_i32
  let v210 : Index := Scalar.indexCast v0
  let c0_81 : Index := 0#32
  let c66 : Index := 66#32
  let c0_82 : Index := 0#32
  ![v210.toNat, 0, 66, 0]
def k0_off32 (i : grid0.Coords) : Fin 4 → Nat :=
  let arg1 : BitVec 32 := BitVec.ofNat 32 (i 1).val
  let c2_i32 : BitVec 32 := 2#32
  let v0 : BitVec 32 := Scalar.remsi arg1 c2_i32
  let v214 : Index := Scalar.indexCast v0
  let c0_86 : Index := 0#32
  let c69 : Index := 69#32
  let c0_87 : Index := 0#32
  ![v214.toNat, 0, 69, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 32 := Scalar.minsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x30x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x3x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S8x2x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S8x30x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S8x3x1536 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S8x4x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== MixerRefIdeal.lean ====
abbrev S32x64x1024 : Shape := ⟨3, ![32, 64, 1024]⟩
abbrev S32x6144 : Shape := ⟨2, ![32, 6144]⟩
abbrev S2x32x2x256 : Shape := ⟨4, ![2, 32, 2, 256]⟩
abbrev S2x32x30x256 : Shape := ⟨4, ![2, 32, 30, 256]⟩
abbrev S2x32x3x1536 : Shape := ⟨4, ![2, 32, 3, 1536]⟩
abbrev S2x32x4x128x128 : Shape := ⟨5, ![2, 32, 4, 128, 128]⟩
abbrev S2x1024 : Shape := ⟨2, ![2, 1024]⟩
abbrev S2x1024x3336 : Shape := ⟨3, ![2, 1024, 3336]⟩
abbrev S2x3x256 : Shape := ⟨3, ![2, 3, 256]⟩
abbrev S2x31x256 : Shape := ⟨3, ![2, 31, 256]⟩
abbrev S2x256 : Shape := ⟨2, ![2, 256]⟩
abbrev S2x4x1536 : Shape := ⟨3, ![2, 4, 1536]⟩
abbrev S2x4 : Shape := ⟨2, ![2, 4]⟩
abbrev S2x128 : Shape := ⟨2, ![2, 128]⟩
abbrev S2x1024x1024 : Shape := ⟨3, ![2, 1024, 1024]⟩
abbrev S32x1x6144 : Shape := ⟨3, ![32, 1, 6144]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x3336 : Shape := ⟨3, ![1, 1024, 3336]⟩
abbrev S1024x3336 : Shape := ⟨2, ![1024, 3336]⟩
abbrev S32x64x3336 : Shape := ⟨3, ![32, 64, 3336]⟩
abbrev S32x64x256 : Shape := ⟨3, ![32, 64, 256]⟩
abbrev S32x64x512 : Shape := ⟨3, ![32, 64, 512]⟩
abbrev S32x64x4 : Shape := ⟨3, ![32, 64, 4]⟩
abbrev S1x32x2x256 : Shape := ⟨4, ![1, 32, 2, 256]⟩
abbrev S32x2x256 : Shape := ⟨3, ![32, 2, 256]⟩
abbrev S1x3x256 : Shape := ⟨3, ![1, 3, 256]⟩
abbrev S3x256 : Shape := ⟨2, ![3, 256]⟩
abbrev S32x66x256 : Shape := ⟨3, ![32, 66, 256]⟩
abbrev S1x32x30x256 : Shape := ⟨4, ![1, 32, 30, 256]⟩
abbrev S32x30x256 : Shape := ⟨3, ![32, 30, 256]⟩
abbrev S1x31x256 : Shape := ⟨3, ![1, 31, 256]⟩
abbrev S31x256 : Shape := ⟨2, ![31, 256]⟩
abbrev S32x94x256 : Shape := ⟨3, ![32, 94, 256]⟩
abbrev S32x64x1536 : Shape := ⟨3, ![32, 64, 1536]⟩
abbrev S1x32x3x1536 : Shape := ⟨4, ![1, 32, 3, 1536]⟩
abbrev S32x3x1536 : Shape := ⟨3, ![32, 3, 1536]⟩
abbrev S1x4x1536 : Shape := ⟨3, ![1, 4, 1536]⟩
abbrev S4x1536 : Shape := ⟨2, ![4, 1536]⟩
abbrev S32x67x1536 : Shape := ⟨3, ![32, 67, 1536]⟩

abbrev nBuf : Space → Nat
  | .hbm => 94
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x6144, .f32⟩
  | .hbm, ⟨2, _⟩ => ⟨S2x32x2x256, .f32⟩
  | .hbm, ⟨3, _⟩ => ⟨S2x32x30x256, .f32⟩
  | .hbm, ⟨4, _⟩ => ⟨S2x32x3x1536, .f32⟩
  | .hbm, ⟨5, _⟩ => ⟨S2x32x4x128x128, .f32⟩
  | .hbm, ⟨6, _⟩ => ⟨S2x1024, .f32⟩
  | .hbm, ⟨7, _⟩ => ⟨S2x1024x3336, .f32⟩
  | .hbm, ⟨8, _⟩ => ⟨S2x3x256, .f32⟩
  | .hbm, ⟨9, _⟩ => ⟨S2x31x256, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S2x4x1536, .f32⟩
  | .hbm, ⟨14, _⟩ => ⟨S2x4, .f32⟩
  | .hbm, ⟨15, _⟩ => ⟨S2x4, .f32⟩
  | .hbm, ⟨16, _⟩ => ⟨S2x128, .f32⟩
  | .hbm, ⟨17, _⟩ => ⟨S2x1024x1024, .f32⟩
  | .hbm, ⟨18, _⟩ => ⟨S2x1024, .f32⟩
  | .hbm, ⟨19, _⟩ => ⟨S32x1x6144, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S1x1024, .f32⟩
  | .hbm, ⟨27, _⟩ => ⟨S1024, .f32⟩
  | .hbm, ⟨28, _⟩ => ⟨S32x64x1024, .f32⟩
  | .hbm, ⟨29, _⟩ => ⟨S_, .f32⟩
  | .hbm, ⟨30, _⟩ => ⟨S32x64, .f32⟩
  | .hbm, ⟨31, _⟩ => ⟨S32x64x1, .f32⟩
  | .hbm, ⟨32, _⟩ => ⟨S_, .f32⟩
  | .hbm, ⟨33, _⟩ => ⟨S32x64x1, .f32⟩
  | .hbm, ⟨34, _⟩ => ⟨S32x64x1, .f32⟩
  | .hbm, ⟨35, _⟩ => ⟨S_, .f32⟩
  | .hbm, ⟨36, _⟩ => ⟨S32x64x1, .f32⟩
  | .hbm, ⟨37, _⟩ => ⟨S32x64x1, .f32⟩
  | .hbm, ⟨38, _⟩ => ⟨S32x64x1, .f32⟩
  | .hbm, ⟨39, _⟩ => ⟨S32x64x1024, .f32⟩
  | .hbm, ⟨40, _⟩ => ⟨S32x64x1024, .f32⟩
  | .hbm, ⟨41, _⟩ => ⟨S1x1x1024, .f32⟩
  | .hbm, ⟨42, _⟩ => ⟨S32x64x1024, .f32⟩
  | .hbm, ⟨43, _⟩ => ⟨S32x64x1024, .f32⟩
  | .hbm, ⟨44, _⟩ => ⟨S_, .f32⟩
  | .hbm, ⟨45, _⟩ => ⟨S32x1x1024, .f32⟩
  | .hbm, ⟨46, _⟩ => ⟨S32x1x1024, .f32⟩
  | .hbm, ⟨47, _⟩ => ⟨S32x64x1024, .f32⟩
  | .hbm, ⟨48, _⟩ => ⟨S32x64x1024, .f32⟩
  | .hbm, ⟨49, _⟩ => ⟨S32x64x1024, .f32⟩
  | .hbm, ⟨50, _⟩ => ⟨S32x64x1024, .f32⟩
  | .hbm, ⟨51, _⟩ => ⟨S1x1024x3336, .f32⟩
  | .hbm, ⟨52, _⟩ => ⟨S1024x3336, .f32⟩
  | .hbm, ⟨53, _⟩ => ⟨S32x64x3336, .f32⟩
  | .hbm, ⟨54, _⟩ => ⟨S32x64x256, .f32⟩
  | .hbm, ⟨55, _⟩ => ⟨S32x64x256, .f32⟩
  | .hbm, ⟨56, _⟩ => ⟨S32x64x256, .f32⟩
  | .hbm, ⟨57, _⟩ => ⟨S32x64x256, .f32⟩
  | .hbm, ⟨58, _⟩ => ⟨S32x64x256, .f32⟩
  | .hbm, ⟨59, _⟩ => ⟨S32x64x512, .f32⟩
  | .hbm, ⟨60, _⟩ => ⟨S32x64x512, .f32⟩
  | .hbm, ⟨61, _⟩ => ⟨S32x64x512, .f32⟩
  | .hbm, ⟨62, _⟩ => ⟨S32x64x512, .f32⟩
  | .hbm, ⟨63, _⟩ => ⟨S32x64x4, .f32⟩
  | .hbm, ⟨64, _⟩ => ⟨S32x64x4, .f32⟩
  | .hbm, ⟨65, _⟩ => ⟨S32x64x256, .f32⟩
  | .hbm, ⟨66, _⟩ => ⟨S32x64x256, .f32⟩
  | .hbm, ⟨67, _⟩ => ⟨S_, .f32⟩
  | .hbm, ⟨68, _⟩ => ⟨S32x64x256, .f32⟩
  | .hbm, ⟨69, _⟩ => ⟨S32x64x256, .f32⟩
  | .hbm, ⟨70, _⟩ => ⟨S_, .f32⟩
  | .hbm, ⟨71, _⟩ => ⟨S32x64x256, .f32⟩
  | .hbm, ⟨72, _⟩ => ⟨S32x64x256, .f32⟩
  | .hbm, ⟨73, _⟩ => ⟨S32x64x256, .f32⟩
  | .hbm, ⟨74, _⟩ => ⟨S32x64x256, .f32⟩
  | .hbm, ⟨75, _⟩ => ⟨S1x32x2x256, .f32⟩
  | .hbm, ⟨76, _⟩ => ⟨S32x2x256, .f32⟩
  | .hbm, ⟨77, _⟩ => ⟨S1x3x256, .f32⟩
  | .hbm, ⟨78, _⟩ => ⟨S3x256, .f32⟩
  | .hbm, ⟨79, _⟩ => ⟨S32x66x256, .f32⟩
  | .hbm, ⟨80, _⟩ => ⟨S32x2x256, .f32⟩
  | .hbm, ⟨81, _⟩ => ⟨S1x32x30x256, .f32⟩
  | .hbm, ⟨82, _⟩ => ⟨S32x30x256, .f32⟩
  | .hbm, ⟨83, _⟩ => ⟨S1x31x256, .f32⟩
  | .hbm, ⟨84, _⟩ => ⟨S31x256, .f32⟩
  | .hbm, ⟨85, _⟩ => ⟨S32x94x256, .f32⟩
  | .hbm, ⟨86, _⟩ => ⟨S32x30x256, .f32⟩
  | .hbm, ⟨87, _⟩ => ⟨S32x64x1536, .f32⟩
  | .hbm, ⟨88, _⟩ => ⟨S1x32x3x1536, .f32⟩
  | .hbm, ⟨89, _⟩ => ⟨S32x3x1536, .f32⟩
  | .hbm, ⟨90, _⟩ => ⟨S1x4x1536, .f32⟩
  | .hbm, ⟨91, _⟩ => ⟨S4x1536, .f32⟩
  | .hbm, ⟨92, _⟩ => ⟨S32x67x1536, .f32⟩
  | .hbm, ⟨93, _⟩ => ⟨S32x3x1536, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Ffn.lean ====
abbrev S8x8192x1024 : Shape := ⟨3, ![8, 8192, 1024]⟩
abbrev S8x6144 : Shape := ⟨2, ![8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S8x1x6144 : Shape := ⟨3, ![8, 1, 6144]⟩
abbrev S4x128x1024 : Shape := ⟨3, ![4, 128, 1024]⟩
abbrev S4x1x6144 : Shape := ⟨3, ![4, 1, 6144]⟩
abbrev S1x1024x5632 : Shape := ⟨3, ![1, 1024, 5632]⟩
abbrev S1x2816x1024 : Shape := ⟨3, ![1, 2816, 1024]⟩
abbrev S1x128x1024 : Shape := ⟨3, ![1, 128, 1024]⟩
abbrev S128x1024 : Shape := ⟨2, ![128, 1024]⟩
abbrev S1x1x6144 : Shape := ⟨3, ![1, 1, 6144]⟩
abbrev S1x6144 : Shape := ⟨2, ![1, 6144]⟩
abbrev S128 : Shape := ⟨1, ![128]⟩
abbrev S128x1 : Shape := ⟨2, ![128, 1]⟩
abbrev S256x1024 : Shape := ⟨2, ![256, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x1x6144, .f32⟩
  | .hbm, ⟨12, _⟩ => ⟨S1x1024, .f32⟩
  | .hbm, ⟨13, _⟩ => ⟨S8x8192x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x1x6144, .f32⟩
  | .local _ .vmem, ⟨3, _⟩ => ⟨S4x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S4x128x1024, .f32⟩
  | .local _ .vmem, ⟨9, _⟩ => ⟨S4x128x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnIdeal.lean ====
abbrev S8x8192x1024 : Shape := ⟨3, ![8, 8192, 1024]⟩
abbrev S8x6144 : Shape := ⟨2, ![8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S8x1x6144 : Shape := ⟨3, ![8, 1, 6144]⟩
abbrev S4x128x1024 : Shape := ⟨3, ![4, 128, 1024]⟩
abbrev S4x1x6144 : Shape := ⟨3, ![4, 1, 6144]⟩
abbrev S1x1024x5632 : Shape := ⟨3, ![1, 1024, 5632]⟩
abbrev S1x2816x1024 : Shape := ⟨3, ![1, 2816, 1024]⟩
abbrev S1x128x1024 : Shape := ⟨3, ![1, 128, 1024]⟩
abbrev S128x1024 : Shape := ⟨2, ![128, 1024]⟩
abbrev S1x1x6144 : Shape := ⟨3, ![1, 1, 6144]⟩
abbrev S1x6144 : Shape := ⟨2, ![1, 6144]⟩
abbrev S128 : Shape := ⟨1, ![128]⟩
abbrev S128x1 : Shape := ⟨2, ![128, 1]⟩
abbrev S256x1024 : Shape := ⟨2, ![256, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x1x6144, .f32⟩
  | .hbm, ⟨12, _⟩ => ⟨S1x1024, .f32⟩
  | .hbm, ⟨13, _⟩ => ⟨S8x8192x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x1x6144, .f32⟩
  | .local _ .vmem, ⟨3, _⟩ => ⟨S4x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S4x128x1024, .f32⟩
  | .local _ .vmem, ⟨9, _⟩ => ⟨S4x128x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x8192x1024 : Shape := ⟨3, ![8, 8192, 1024]⟩
abbrev S8x6144 : Shape := ⟨2, ![8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S8x1x6144 : Shape := ⟨3, ![8, 1, 6144]⟩
abbrev S8x1x1024 : Shape := ⟨3, ![8, 1, 1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x8192x5632 : Shape := ⟨3, ![8, 8192, 5632]⟩
abbrev S8x8192x2816 : Shape := ⟨3, ![8, 8192, 2816]⟩
abbrev S1x2816x1024 : Shape := ⟨3, ![1, 2816, 1024]⟩
abbrev S2816x1024 : Shape := ⟨2, ![2816, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S1x1024x5632, .f32⟩
  | .hbm, ⟨39, _⟩ => ⟨S1024x5632, .f32⟩
  | .hbm, ⟨40, _⟩ => ⟨S8x8192x5632, .f32⟩
  | .hbm, ⟨41, _⟩ => ⟨S8x8192x2816, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S_, .f32⟩
  | .hbm, ⟨46, _⟩ => ⟨S8x8192x2816, .f32⟩
  | .hbm, ⟨47, _⟩ => ⟨S8x8192x2816, .f32⟩
  | .hbm, ⟨48, _⟩ => ⟨S_, .f32⟩
  | .hbm, ⟨49, _⟩ => ⟨S8x8192x2816, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S1x2816x1024, .f32⟩
  | .hbm, ⟨54, _⟩ => ⟨S2816x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x8192x1, .f32⟩
  | .hbm, ⟨70, _⟩ => ⟨S8x8192x1024, .f32⟩
  | .hbm, ⟨71, _⟩ => ⟨S8x8192x1024, .f32⟩
  | .hbm, ⟨72, _⟩ => ⟨S1x1x1024, .f32⟩
  | .hbm, ⟨73, _⟩ => ⟨S8x8192x1024, .f32⟩
  | .hbm, ⟨74, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== FfnSample.lean ====
abbrev S32x64x1024 : Shape := ⟨3, ![32, 64, 1024]⟩
abbrev S32x6144 : Shape := ⟨2, ![32, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S32x1x6144 : Shape := ⟨3, ![32, 1, 6144]⟩
abbrev S8x64x1024 : Shape := ⟨3, ![8, 64, 1024]⟩
abbrev S8x1x6144 : Shape := ⟨3, ![8, 1, 6144]⟩
abbrev S1x1024x5632 : Shape := ⟨3, ![1, 1024, 5632]⟩
abbrev S1x2816x1024 : Shape := ⟨3, ![1, 2816, 1024]⟩
abbrev S1x64x1024 : Shape := ⟨3, ![1, 64, 1024]⟩
abbrev S64x1024 : Shape := ⟨2, ![64, 1024]⟩
abbrev S1x1x6144 : Shape := ⟨3, ![1, 1, 6144]⟩
abbrev S1x6144 : Shape := ⟨2, ![1, 6144]⟩
abbrev S64 : Shape := ⟨1, ![64]⟩
abbrev S64x1 : Shape := ⟨2, ![64, 1]⟩
abbrev S256x1024 : Shape := ⟨2, ![256, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S32x64x1024, .f32⟩
  | .hbm, ⟨1, _⟩ => ⟨S32x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S32x1x6144, .f32⟩
  | .hbm, ⟨12, _⟩ => ⟨S1x1024, .f32⟩
  | .hbm, ⟨13, _⟩ => ⟨S32x64x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x1x6144, .f32⟩
  | .local _ .vmem, ⟨3, _⟩ => ⟨S8x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S8x64x1024, .f32⟩
  | .local _ .vmem, ⟨9, _⟩ => ⟨S8x64x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnSampleRefIdeal.lean ====
abbrev S32x64x1024 : Shape := ⟨3, ![32, 64, 1024]⟩
abbrev S32x6144 : Shape := ⟨2, ![32, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32x1x6144 : Shape := ⟨3, ![32, 1, 6144]⟩
abbrev S32x1x1024 : Shape := ⟨3, ![32, 1, 1024]⟩
abbrev S1x1024 : Shape := ⟨2, ![1, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S32x64x5632 : Shape := ⟨3, ![32, 64, 5632]⟩
abbrev S32x64x2816 : Shape := ⟨3, ![32, 64, 2816]⟩
abbrev S1x2816x1024 : Shape := ⟨3, ![1, 2816, 1024]⟩
abbrev S2816x1024 : Shape := ⟨2, ![2816, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S32x1x6144, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S1x1024, .f32⟩
  | .hbm, ⟨14, _⟩ => ⟨S1024, .f32⟩
  | .hbm, ⟨15, _⟩ => ⟨S32x64x1024, .f32⟩
  | .hbm, ⟨16, _⟩ => ⟨S_, .f32⟩
  | .hbm, ⟨17, _⟩ => ⟨S32x64, .f32⟩
  | .hbm, ⟨18, _⟩ => ⟨S32x64x1, .f32⟩
  | .hbm, ⟨19, _⟩ => ⟨S_, .f32⟩
  | .hbm, ⟨20, _⟩ => ⟨S32x64x1, .f32⟩
  | .hbm, ⟨21, _⟩ => ⟨S32x64x1, .f32⟩
  | .hbm, ⟨22, _⟩ => ⟨S_, .f32⟩
  | .hbm, ⟨23, _⟩ => ⟨S32x64x1, .f32⟩
  | .hbm, ⟨24, _⟩ => ⟨S32x64x1, .f32⟩
  | .hbm, ⟨25, _⟩ => ⟨S32x64x1, .f32⟩
  | .hbm, ⟨26, _⟩ => ⟨S32x64x1024, .f32⟩
  | .hbm, ⟨27, _⟩ => ⟨S32x64x1024, .f32⟩
  | .hbm, ⟨28, _⟩ => ⟨S1x1x1024, .f32⟩
  | .hbm, ⟨29, _⟩ => ⟨S32x64x1024, .f32⟩
  | .hbm, ⟨30, _⟩ => ⟨S32x64x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x64x1024, .f32⟩
  | .hbm, ⟨35, _⟩ => ⟨S32x64x1024, .f32⟩
  | .hbm, ⟨36, _⟩ => ⟨S32x64x1024, .f32⟩
  | .hbm, ⟨37, _⟩ => ⟨S32x64x1024, .f32⟩
  | .hbm, ⟨38, _⟩ => ⟨S1x1024x5632, .f32⟩
  | .hbm, ⟨39, _⟩ => ⟨S1024x5632, .f32⟩
  | .hbm, ⟨40, _⟩ => ⟨S32x64x5632, .f32⟩
  | .hbm, ⟨41, _⟩ => ⟨S32x64x2816, .f32⟩
  | .hbm, ⟨42, _⟩ => ⟨S32x64x2816, .f32⟩
  | .hbm, ⟨43, _⟩ => ⟨S32x64x2816, .f32⟩
  | .hbm, ⟨44, _⟩ => ⟨S32x64x2816, .f32⟩
  | .hbm, ⟨45, _⟩ => ⟨S_, .f32⟩
  | .hbm, ⟨46, _⟩ => ⟨S32x64x2816, .f32⟩
  | .hbm, ⟨47, _⟩ => ⟨S32x64x2816, .f32⟩
  | .hbm, ⟨48, _⟩ => ⟨S_, .f32⟩
  | .hbm, ⟨49, _⟩ => ⟨S32x64x2816, .f32⟩
  | .hbm, ⟨50, _⟩ => ⟨S32x64x2816, .f32⟩
  | .hbm, ⟨51, _⟩ => ⟨S32x64x2816, .f32⟩
  | .hbm, ⟨52, _⟩ => ⟨S32x64x2816, .f32⟩
  | .hbm, ⟨53, _⟩ => ⟨S1x2816x1024, .f32⟩
  | .hbm, ⟨54, _⟩ => ⟨S2816x1024, .f32⟩
  | .hbm, ⟨55, _⟩ => ⟨S32x64x1024, .f32⟩
  | .hbm, ⟨56, _⟩ => ⟨S32x64x1024, .f32⟩
  | .hbm, ⟨57, _⟩ => ⟨S32x64x1024, .f32⟩
  | .hbm, ⟨58, _⟩ => ⟨S32x64x1024, .f32⟩
  | .hbm, ⟨59, _⟩ => ⟨S32x64x1024, .f32⟩
  | .hbm, ⟨60, _⟩ => ⟨S_, .f32⟩
  | .hbm, ⟨61, _⟩ => ⟨S32x64, .f32⟩
  | .hbm, ⟨62, _⟩ => ⟨S32x64x1, .f32⟩
  | .hbm, ⟨63, _⟩ => ⟨S_, .f32⟩
  | .hbm, ⟨64, _⟩ => ⟨S32x64x1, .f32⟩
  | .hbm, ⟨65, _⟩ => ⟨S32x64x1, .f32⟩
  | .hbm, ⟨66, _⟩ => ⟨S_, .f32⟩
  | .hbm, ⟨67, _⟩ => ⟨S32x64x1, .f32⟩
  | .hbm, ⟨68, _⟩ => ⟨S32x64x1, .f32⟩
  | .hbm, ⟨69, _⟩ => ⟨S32x64x1, .f32⟩
  | .hbm, ⟨70, _⟩ => ⟨S32x64x1024, .f32⟩
  | .hbm, ⟨71, _⟩ => ⟨S32x64x1024, .f32⟩
  | .hbm, ⟨72, _⟩ => ⟨S1x1x1024, .f32⟩
  | .hbm, ⟨73, _⟩ => ⟨S32x64x1024, .f32⟩
  | .hbm, ⟨74, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Ada.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S40x1024 : Shape := ⟨2, ![40, 1024]⟩
abbrev S2x1x6144 : Shape := ⟨3, ![2, 1, 6144]⟩
abbrev S2x40x6144 : Shape := ⟨3, ![2, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S40x1024, .f32⟩
  | .hbm, ⟨5, _⟩ => ⟨S2x1x6144, .f32⟩
  | .hbm, ⟨6, _⟩ => ⟨S2x40x6144, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S40x1024 : Shape := ⟨2, ![40, 1024]⟩
abbrev S_ : Shape := ⟨0, ![]⟩
abbrev S1x1024x6144 : Shape := ⟨3, ![1, 1024, 6144]⟩
abbrev S1024x6144 : Shape := ⟨2, ![1024, 6144]⟩
abbrev S40x6144 : Shape := ⟨2, ![40, 6144]⟩
abbrev S1x6144 : Shape := ⟨2, ![1, 6144]⟩
abbrev S6144 : Shape := ⟨1, ![6144]⟩
abbrev S1x40x6144 : Shape := ⟨3, ![1, 40, 6144]⟩
abbrev S2x40x6144 : Shape := ⟨3, ![2, 40, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S40x1024, .f32⟩
  | .hbm, ⟨5, _⟩ => ⟨S40x1024, .f32⟩
  | .hbm, ⟨6, _⟩ => ⟨S40x1024, .f32⟩
  | .hbm, ⟨7, _⟩ => ⟨S_, .f32⟩
  | .hbm, ⟨8, _⟩ => ⟨S40x1024, .f32⟩
  | .hbm, ⟨9, _⟩ => ⟨S40x1024, .f32⟩
  | .hbm, ⟨10, _⟩ => ⟨S_, .f32⟩
  | .hbm, ⟨11, _⟩ => ⟨S40x1024, .f32⟩
  | .hbm, ⟨12, _⟩ => ⟨S40x1024, .f32⟩
  | .hbm, ⟨13, _⟩ => ⟨S40x1024, .f32⟩
  | .hbm, ⟨14, _⟩ => ⟨S1x1024x6144, .f32⟩
  | .hbm, ⟨15, _⟩ => ⟨S1024x6144, .f32⟩
  | .hbm, ⟨16, _⟩ => ⟨S40x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S40x6144, .f32⟩
  | .hbm, ⟨21, _⟩ => ⟨S40x6144, .f32⟩
  | .hbm, ⟨22, _⟩ => ⟨S1x1024x6144, .f32⟩
  | .hbm, ⟨23, _⟩ => ⟨S1024x6144, .f32⟩
  | .hbm, ⟨24, _⟩ => ⟨S40x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S40x6144, .f32⟩
  | .hbm, ⟨29, _⟩ => ⟨S40x6144, .f32⟩
  | .hbm, ⟨30, _⟩ => ⟨S1x40x6144, .f32⟩
  | .hbm, ⟨31, _⟩ => ⟨S1x40x6144, .f32⟩
  | .hbm, ⟨32, _⟩ => ⟨S2x40x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== FfnFirst.lean ====
abbrev S8x8192x1024 : Shape := ⟨3, ![8, 8192, 1024]⟩
abbrev S8x6144 : Shape := ⟨2, ![8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S8x1x6144 : Shape := ⟨3, ![8, 1, 6144]⟩
abbrev S4x128x1024 : Shape := ⟨3, ![4, 128, 1024]⟩
abbrev S4x1x6144 : Shape := ⟨3, ![4, 1, 6144]⟩
abbrev S1x1024x5632 : Shape := ⟨3, ![1, 1024, 5632]⟩
abbrev S1x2816x1024 : Shape := ⟨3, ![1, 2816, 1024]⟩
abbrev S1x128x1024 : Shape := ⟨3, ![1, 128, 1024]⟩
abbrev S128x1024 : Shape := ⟨2, ![128, 1024]⟩
abbrev S1x1x6144 : Shape := ⟨3, ![1, 1, 6144]⟩
abbrev S1x6144 : Shape := ⟨2, ![1, 6144]⟩
abbrev S128 : Shape := ⟨1, ![128]⟩
abbrev S128x1 : Shape := ⟨2, ![128, 1]⟩
abbrev S256x1024 : Shape := ⟨2, ![256, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x1x6144, .f32⟩
  | .hbm, ⟨12, _⟩ => ⟨S1x1024, .f32⟩
  | .hbm, ⟨13, _⟩ => ⟨S8x8192x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x1x6144, .f32⟩
  | .local _ .vmem, ⟨3, _⟩ => ⟨S4x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S4x128x1024, .f32⟩
  | .local _ .vmem, ⟨9, _⟩ => ⟨S4x128x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFirstRefIdeal.lean ====
abbrev S8x8192x1024 : Shape := ⟨3, ![8, 8192, 1024]⟩
abbrev S8x6144 : Shape := ⟨2, ![8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S8x1x6144 : Shape := ⟨3, ![8, 1, 6144]⟩
abbrev S8x1x1024 : Shape := ⟨3, ![8, 1, 1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x8192x5632 : Shape := ⟨3, ![8, 8192, 5632]⟩
abbrev S8x8192x2816 : Shape := ⟨3, ![8, 8192, 2816]⟩
abbrev S1x2816x1024 : Shape := ⟨3, ![1, 2816, 1024]⟩
abbrev S2816x1024 : Shape := ⟨2, ![2816, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S1x1024x5632, .f32⟩
  | .hbm, ⟨39, _⟩ => ⟨S1024x5632, .f32⟩
  | .hbm, ⟨40, _⟩ => ⟨S8x8192x5632, .f32⟩
  | .hbm, ⟨41, _⟩ => ⟨S8x8192x2816, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S_, .f32⟩
  | .hbm, ⟨46, _⟩ => ⟨S8x8192x2816, .f32⟩
  | .hbm, ⟨47, _⟩ => ⟨S8x8192x2816, .f32⟩
  | .hbm, ⟨48, _⟩ => ⟨S_, .f32⟩
  | .hbm, ⟨49, _⟩ => ⟨S8x8192x2816, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S1x2816x1024, .f32⟩
  | .hbm, ⟨54, _⟩ => ⟨S2816x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Common.Sigmoid.lean ====
/- The two spellings of the logistic function agree on every extended real. -/
module
public import Idealize.ShloMosaic.Lib.Pointwise
@[expose] public section
namespace Cert.Common
open Idealize.ShloMosaic

/-- The extended real that the binary32 word of one half stands for. -/
noncomputable abbrev half : EReal := Ideal.ofBits .f32 0x3F000000#32

theorem half_eq : half = ((1 / 2 : ℝ) : EReal) := by
  simp [half, Ideal.ofBits, Ideal.ieee, -EReal.coe_mul]; norm_num

/-- `½ tanh (r / 2) + ½ = 1 / (1 + e⁻ʳ)` for a real number. -/
theorem tanh_half (r : ℝ) : 1 / 2 * Real.tanh (1 / 2 * r) + 1 / 2 = 1 / (1 + Real.exp (-r)) := by
  rw [Real.tanh_eq_sinh_div_cosh, Real.sinh_eq, Real.cosh_eq]
  have h : Real.exp (-r) = Real.exp (-(1 / 2 * r)) * Real.exp (-(1 / 2 * r)) := by
    rw [← Real.exp_add]; congr 1; ring
  have hi : Real.exp (1 / 2 * r) * Real.exp (-(1 / 2 * r)) = 1 := by
    rw [← Real.exp_add]; simp
  have hp : 0 < Real.exp (1 / 2 * r) := Real.exp_pos _
  have hq : 0 < Real.exp (-(1 / 2 * r)) := Real.exp_pos _
  rw [h]
  generalize Real.exp (1 / 2 * r) = p at *
  generalize Real.exp (-(1 / 2 * r)) = q at *
  have hpq : p = 1 / q := by field_simp; linarith
  subst hpq
  have : 0 < 1 + q * q := by positivity
  field_simp
  ring

/-- `½ tanh (x / 2) + ½` is `1 / (1 + e⁻ˣ)`, at both infinities too. -/
theorem sigmoid_eq (x : EReal) :
    half * Ideal.tanh (half * x) + half = Ideal.div 1 (1 + Ideal.exp (-x)) := by
  rw [half_eq]
  induction x using EReal.rec with
  | bot =>
    rw [EReal.coe_mul_bot_of_pos (by norm_num), EReal.neg_bot, Ideal.tanh_bot, Ideal.exp_top]
    have h1 : (1 : EReal) + ⊤ = ⊤ := by rfl
    rw [h1, Ideal.div, if_neg (by simp), EReal.inv_top, mul_zero]
    have : (-1 : EReal) = ((-1 : ℝ) : EReal) := by simp
    rw [this, ← EReal.coe_mul, ← EReal.coe_add]
    norm_num
  | top =>
    rw [EReal.coe_mul_top_of_pos (by norm_num), EReal.neg_top, Ideal.tanh_top, Ideal.exp_bot, add_zero]
    have h1 : (1 : EReal) = ((1 : ℝ) : EReal) := by simp
    rw [h1, Ideal.div_coe one_ne_zero, ← EReal.coe_mul, ← EReal.coe_add, ← EReal.coe_mul]
    norm_num
  | coe r =>
    have h1 : (1 : EReal) = ((1 : ℝ) : EReal) := by simp
    rw [← EReal.coe_mul, Ideal.tanh_coe, ← EReal.coe_neg, Ideal.exp_coe, h1, ← EReal.coe_add,
      Ideal.div_coe (by positivity), ← EReal.coe_mul, ← EReal.coe_mul, ← EReal.coe_add, tanh_half]
    simp
/-- The same, with the word of one half written out. -/
theorem sigmoid_word (x : Ideal .f32) :
    Ideal.ofBits FTy.f32 1056964608#32 * Ideal.tanh (Ideal.ofBits FTy.f32 1056964608#32 * x) + Ideal.ofBits FTy.f32 1056964608#32
      = Ideal.div 1 (1 + Ideal.exp (-x)) := sigmoid_eq x

end Cert.Common
-- ==== Proof.Ada.Value.lean ====
/- The modulation call's result array equals the reference's. -/
module
public import proofs.«01_k».proof.Defs
public import proofs.«01_k».proof.Proof.Gen.AdaIdeal.Value
public import proofs.«01_k».proof.Proof.Gen.AdaRefIdeal.Run
public import proofs.«01_k».proof.Proof.Gen.AdaRefIdeal.Read
public import proofs.«01_k».proof.Proof.Common.Sigmoid
public import Idealize.ShloMosaic.Lib.Pipeline.ValueKit
@[expose] public section
set_option maxRecDepth 16384
noncomputable section
namespace Cert.AdaIdeal.Hand
open Cert.AdaIdeal Cert.AdaIdeal.Gen Idealize.ShloMosaic Idealize.ShloMosaic.TcCoe Idealize.ShloMosaic.Tactic Idealize.SL.Sem

/-- One entry of the modulation: a row of the conditioning through `x · σ(x)`, times a column, plus a bias. -/
def entry (x w : Fin 1024 → EReal) (b : EReal) : EReal :=
  (∑ k, x k * Ideal.div 1 (1 + Ideal.exp (-x k)) * w k) + b

/-- The output block of one grid point. -/
theorem block_apply (x0 : Vec Ideal S40x1024 .f32) (x1 : Vec Ideal S1x1024x1536 .f32) (x2 : Vec Ideal S1x1x1536 .f32) (y : S1x40x1536.Idx) :
    out0_3 x0 x1 x2 y = entry (fun k => x0 (ix2 (y 1) k)) (fun k => x1 (ix3 0 k (y 2))) (x2 (ix3 0 0 (y 2))) := by
  unfold out0_3
  canon_tiles z h
  idx_vars y
  idx_vars z
  obtain rfl : y1 = z1 := Fin.ext h1
  obtain rfl : y2 = z2 := Fin.ext h2
  obtain rfl : z0 = 0 := Subsingleton.elim _ _
  obtain rfl : y0 = 0 := Subsingleton.elim _ _
  unfold k0_pay1
  pointwise
  simp only [Cert.Common.sigmoid_word, entry]

/-- The reference's result. -/
theorem ref_apply (x0 : (⟨S8x1024, .f32⟩ : BufTy).Contents (Elt Ideal)) (x1 : (⟨S32x1024, .f32⟩ : BufTy).Contents (Elt Ideal)) (x2 : (⟨S2x1024x6144, .f32⟩ : BufTy).Contents (Elt Ideal)) (x3 : (⟨S2x6144, .f32⟩ : BufTy).Contents (Elt Ideal)) (l : Fin 2) (i : Fin 40) (o : Fin 6144) :
    AdaRefIdeal.Read.val_main_v20 (F := Ideal) x0 x1 x2 x3 (ix3 l i o)
      = entry (fun k => AdaRefIdeal.Read.val_main_v0 (F := Ideal) x0 x1 (ix2 i k)) (fun k => x2 (ix3 l k o)) (x3 (ix2 l o)) := by
  unfold AdaRefIdeal.Read.val_main_v20 AdaRefIdeal.Read.val_main_v19 AdaRefIdeal.Read.val_main_v18 AdaRefIdeal.Read.val_main_v17 AdaRefIdeal.Read.val_main_v16 AdaRefIdeal.Read.val_main_v15 AdaRefIdeal.Read.val_main_v14 AdaRefIdeal.Read.val_main_v13 AdaRefIdeal.Read.val_main_v12 AdaRefIdeal.Read.val_main_v11 AdaRefIdeal.Read.val_main_v10 AdaRefIdeal.Read.val_main_v9 AdaRefIdeal.Read.val_main_v8 AdaRefIdeal.Read.val_main_v7 AdaRefIdeal.Read.val_main_v6 AdaRefIdeal.Read.val_main_v5 AdaRefIdeal.Read.val_main_v4 AdaRefIdeal.Read.val_main_v3 AdaRefIdeal.Read.val_main_v2 AdaRefIdeal.Read.val_main_v1 AdaRefIdeal.Read.val_main_call0_v5 AdaRefIdeal.Read.val_main_call0_v4 AdaRefIdeal.Read.val_main_call0_v3 AdaRefIdeal.Read.val_main_call0_v2 AdaRefIdeal.Read.val_main_call0_v1 AdaRefIdeal.Read.val_main_call0_v0 AdaRefIdeal.Read.val_main_call0_cst AdaRefIdeal.Read.val_main_call0_cst_0
  generalize AdaRefIdeal.Read.val_main_v0 (F := Ideal) x0 x1 = C
  match l with
  | 0 | 1 =>
    pointwise
    rfl

variable (m : (ℓ : Loc nD τ sig) → Buf (Elt Ideal) ℓ)

/-- Which block each window stages at a grid point, as a function of the output's block. -/
theorem idx_facts : ∀ t : Fin cfg0.N,
    win0_0.index t = ![0, 0] ∧ win0_1.index t = ![win0_3.index t 0, 0, win0_3.index t 2] ∧ win0_2.index t = ![win0_3.index t 0, 0, win0_3.index t 2]
      ∧ win0_3.index t 1 = 0 :=
  (by decide +kernel : ∀ t : Fin grid0.N, _)

/-- The stacked conditioning rows the region finds. -/
theorem V_v0 (c : Dev nD) : V m c main_v0
    = AdaRefIdeal.Read.val_main_v0 (F := Ideal) (m ((c : Thread nD τ).loc main_arg0)) (m ((c : Thread nD τ).loc main_arg1)) := by
  simp only [V, hostOps0]
  after_results
  rfl

/-- The result array, index by index. -/
theorem arr_eq (c : Dev nD) :
    (dats m 0 c).arrAt 3 cfg0.N = fun i : S2x40x6144.Idx =>
      entry (fun k => V m c main_v0 (ix2 (i 1) k)) (fun k => m ((c : Thread nD τ).loc main_arg2) (ix3 (i 0) k (i 2)))
        (m ((c : Thread nD τ).loc main_arg3) (ix2 (i 0) (i 2))) := by
  refine (dats m 0 c).arrAt_eq_of_covers 3 _ (by decide +kernel) fun t hf y => ?_
  blk_simp
  rw [after0_3, block_apply]
  obtain ⟨h0, h1, h2, h3⟩ := idx_facts t
  congr 1
  · funext k
    have e : ∀ g : Shape.Idx S40x1024 → EReal, g ((win0_0.blk t).view.emb (ix2 (y 1) k)) = g (ix2 ((win0_3.blk t).view.emb y 1) k) := fun g => by
      blk_ext [h0, h3]
    exact e (V m c main_v0)
  · funext k
    blk_ext [iblk, V, h1, h3]
  · blk_ext! [iblk, V, h2, h3]

/-- The kernel's run and the reference's run end with equal result arrays. -/
theorem algebraic : Cert.algebraic_AdaIdeal_AdaRefIdeal := by
  intro m g m' g' _ hm
  refine ⟨fun c => (dats m 0 c).arrAt 3 cfg0.N, Value.run_blocks m g, ?_⟩
  refine (θ_run _ _ _).mono (fun r h c => ?_) (AdaRefIdeal.Value.run m' g')
  refine ⟨(h c).1.trans ?_, (h c).2⟩
  obtain ⟨e0, e1, e2, e3⟩ := hm c
  rw [AdaRefIdeal.Read.val_main_v20_eq, e0, e1, e2, e3]
  refine Eq.trans ?_ (arr_eq m c).symm
  funext i
  idx_vars i
  rw [V_v0]
  exact ref_apply _ _ _ _ i0 i1 i2
end Cert.AdaIdeal.Hand
-- ==== Proof.Ffn.Row.lean ====
/- The feed-forward branch of the layer on ONE row of the residual stream, over the extended reals. -/
module
public import Idealize.ShloMosaic.Lib.Pointwise
@[expose] public section
namespace Cert.FfnRow
open Idealize.ShloMosaic

/-- RMS norm of a row of 1024 numbers with gains `g`. -/
noncomputable def norm (x g : Fin 1024 → EReal) (c : Fin 1024) : EReal :=
  x c * Ideal.rsqrt (Ideal.div (∑ k, x k * x k) (Ideal.ofBits .f32 0x44800000#32) + Ideal.ofBits .f32 0x358637BD#32) * g c

/-- The modulated row: the norm, scaled by one plus columns 4096… of the modulation and shifted by its columns 3072…. -/
noncomputable def hid (x g : Fin 1024 → EReal) (m : Fin 6144 → EReal) (c : Fin 1024) : EReal :=
  norm x g c * (1 + m ⟨4096 + c.val, by omega⟩) + m ⟨3072 + c.val, by omega⟩

/-- The gated unit of two projections `a` and `b` of a row `h`. -/
noncomputable def act (h a b : Fin 1024 → EReal) : EReal :=
  (∑ k, h k * a k) * Ideal.div 1 (1 + Ideal.exp (-(∑ k, h k * a k))) * ∑ k, h k * b k

/-- The down projection of the 2816 gated units. -/
noncomputable def down (h : Fin 1024 → EReal) (W : Fin 1024 → Fin 5632 → EReal) (D : Fin 2816 → Fin 1024 → EReal) (o : Fin 1024) : EReal :=
  ∑ f : Fin 2816, act h (fun k => W k ⟨f.val, by omega⟩) (fun k => W k ⟨2816 + f.val, by omega⟩) * D f o

/-- The row after the gated residual, before the last norm. -/
noncomputable def res (x : Fin 1024 → EReal) (m : Fin 6144 → EReal) (y : Fin 1024 → EReal) (c : Fin 1024) : EReal :=
  x c + m ⟨5120 + c.val, by omega⟩ * y c

/-- The whole branch on one row. -/
noncomputable def out (x : Fin 1024 → EReal) (m : Fin 6144 → EReal) (g : Fin 1024 → EReal) (W : Fin 1024 → Fin 5632 → EReal)
    (D : Fin 2816 → Fin 1024 → EReal) (fg : Fin 1024 → EReal) (c : Fin 1024) : EReal :=
  norm (res x m (down (hid x g m) W D)) fg c

/-- The branch on one row of the first layer, which has no last norm. -/
noncomputable def bare (x : Fin 1024 → EReal) (m : Fin 6144 → EReal) (g : Fin 1024 → EReal) (W : Fin 1024 → Fin 5632 → EReal)
    (D : Fin 2816 → Fin 1024 → EReal) (c : Fin 1024) : EReal :=
  res x m (down (hid x g m) W D) c

/-- A sum over the 2816 units, cut where the kernel cuts it. -/
theorem sum_cut (f : Fin 2816 → EReal) :
    ∑ k, f k = (∑ k : Fin 1024, f ⟨k.val, by omega⟩) + (∑ k : Fin 1024, f ⟨1024 + k.val, by omega⟩) + ∑ k : Fin 768, f ⟨2048 + k.val, by omega⟩ := by
  rw [show (∑ k, f k) = ∑ k : Fin (1024 + 1024 + 768), f ⟨k.val, k.isLt⟩ from rfl, Fin.sum_univ_add, Fin.sum_univ_add]
  rfl

end Cert.FfnRow
-- ==== Proof.Ffn.Block.lean ====
/- What one grid point of the feed-forward kernel leaves in its output block, row by row. -/
module
public import proofs.«01_k».proof.Proof.Gen.FfnIdeal.Value
public import proofs.«01_k».proof.Proof.Common.Sigmoid
public import proofs.«01_k».proof.Proof.Ffn.Row
public import Idealize.ShloMosaic.Lib.Pipeline.ValueKit
@[expose] public section
set_option maxRecDepth 16384
namespace Cert.FfnIdeal.Hand
open Cert.FfnIdeal Cert.FfnIdeal.Gen Idealize.ShloMosaic Cert.FfnRow

variable (x0 : Vec Ideal S4x128x1024 .f32) (x1 : Vec Ideal S4x1x6144 .f32) (x2 : Vec Ideal S1x1024 .f32) (x3 : Vec Ideal S1x1024x5632 .bf16) (x4 : Vec Ideal S1x2816x1024 .bf16) (x5 : Vec Ideal S1x1024 .f32)

/-- Row `r` of stream `s` of the input block, modulated. -/
noncomputable abbrev hrow (s : Fin 4) (r : Fin 128) : Fin 1024 → EReal :=
  hid (fun k => x0 (ix3 s r k)) (fun k => x2 (ix2 0 k)) (fun k => x1 (ix3 s 0 k))

/-- Rows of streams 0 and 1, stacked. -/
theorem pay31_lo (r : Fin 128) (c : Fin 1024) :
    k0_pay31 x0 x1 x2 x3 x4 x5 (ix2 ⟨r.val, by omega⟩ c) = hrow x0 x1 x2 0 r c := by
  unfold k0_pay31 k0_pay30
  unfold_payloads
  pointwise
  rfl

theorem pay31_hi (r : Fin 128) (c : Fin 1024) :
    k0_pay31 x0 x1 x2 x3 x4 x5 (ix2 ⟨128 + r.val, by omega⟩ c) = hrow x0 x1 x2 1 r c := by
  unfold k0_pay31 k0_pay30
  unfold_payloads
  pointwise
  rfl

/-- Rows of streams 2 and 3, stacked. -/
theorem pay32_lo (r : Fin 128) (c : Fin 1024) :
    k0_pay32 x0 x1 x2 x3 x4 x5 (ix2 ⟨r.val, by omega⟩ c) = hrow x0 x1 x2 2 r c := by
  unfold k0_pay32 k0_pay30
  unfold_payloads
  pointwise
  rfl

theorem pay32_hi (r : Fin 128) (c : Fin 1024) :
    k0_pay32 x0 x1 x2 x3 x4 x5 (ix2 ⟨128 + r.val, by omega⟩ c) = hrow x0 x1 x2 3 r c := by
  unfold k0_pay32 k0_pay30
  unfold_payloads
  pointwise
  rfl

/-- The down projection of the stacked rows. -/
theorem pay33_apply (q : Fin 256) (o : Fin 1024) :
    k0_pay33 x0 x1 x2 x3 x4 x5 (ix2 q o)
      = down (fun k => k0_pay31 x0 x1 x2 x3 x4 x5 (ix2 q k)) (fun k f => x3 (ix3 0 k f)) (fun f o => x4 (ix3 0 f o)) o := by
  rw [down, sum_cut]
  unfold k0_pay33
  generalize k0_pay31 x0 x1 x2 x3 x4 x5 = H
  unfold_payloads
  pointwise
  simp only [Cert.Common.sigmoid_word, act, ← Nat.add_assoc, Nat.reduceAdd]

theorem pay34_apply (q : Fin 256) (o : Fin 1024) :
    k0_pay34 x0 x1 x2 x3 x4 x5 (ix2 q o)
      = down (fun k => k0_pay32 x0 x1 x2 x3 x4 x5 (ix2 q k)) (fun k f => x3 (ix3 0 k f)) (fun f o => x4 (ix3 0 f o)) o := by
  rw [down, sum_cut]
  unfold k0_pay34
  generalize k0_pay32 x0 x1 x2 x3 x4 x5 = H
  unfold_payloads
  pointwise
  simp only [Cert.Common.sigmoid_word, act, ← Nat.add_assoc, Nat.reduceAdd]

/-- The output block of one grid point: row `r` of stream `s` is the branch on that row. -/
theorem out_apply (y : S4x128x1024.Idx) :
    out0_6 x0 x1 x2 x3 x4 x5 y
      = out (fun k => x0 (ix3 (y 0) (y 1) k)) (fun k => x1 (ix3 (y 0) 0 k)) (fun k => x2 (ix2 0 k)) (fun k f => x3 (ix3 0 k f))
          (fun f o => x4 (ix3 0 f o)) (fun k => x5 (ix2 0 k)) (y 2) := by
  unfold out0_6
  canon_tiles z h
  all_goals
    idx_vars y
    idx_vars z
    obtain rfl : y1 = z1 := Fin.ext h1
    obtain rfl : y2 = z2 := Fin.ext h2
    obtain rfl : z0 = 0 := Subsingleton.elim _ _
  · obtain rfl : y0 = 3 := Fin.ext h0
    unfold k0_pay1
    pointwise [pay34_apply, pay32_hi]
    rfl
  · obtain rfl : y0 = 2 := Fin.ext h0
    unfold k0_pay29
    pointwise [pay34_apply, pay32_lo]
    rfl
  · obtain rfl : y0 = 1 := Fin.ext h0
    unfold k0_pay28 k0_pay27 k0_pay26
    pointwise [pay33_apply, pay31_hi]
    rfl
  · obtain rfl : y0 = 0 := Fin.ext h0
    unfold k0_pay25
    pointwise [pay33_apply, pay31_lo]
    rfl
end Cert.FfnIdeal.Hand
-- ==== Proof.Ffn.Ref.lean ====
/- What the feed-forward reference computes, element by element. -/
module
public import proofs.«01_k».proof.Proof.Gen.FfnRefIdeal.Read
public import proofs.«01_k».proof.Proof.Ffn.Row
@[expose] public section
set_option maxRecDepth 16384
namespace Cert.FfnRefIdeal.Hand
open Cert.FfnRefIdeal Cert.FfnRefIdeal.Gen Cert.FfnRefIdeal.Read Idealize.ShloMosaic Cert.FfnRow

variable (x0 : (⟨S8x8192x1024, .f32⟩ : BufTy).Contents (Elt Ideal)) (x1 : (⟨S8x6144, .f32⟩ : BufTy).Contents (Elt Ideal)) (x2 : (⟨S2x1024, .f32⟩ : BufTy).Contents (Elt Ideal)) (x3 : (⟨S2x1024x5632, .f32⟩ : BufTy).Contents (Elt Ideal)) (x4 : (⟨S2x2816x1024, .f32⟩ : BufTy).Contents (Elt Ideal)) (x5 : (⟨S1024, .f32⟩ : BufTy).Contents (Elt Ideal))

/-- Row `t` of batch element `b`, modulated. -/
theorem v27_apply (b : Fin 8) (t : Fin 8192) (k : Fin 1024) :
    val_main_v27 (F := Ideal) x0 x1 x2 (ix3 b t k) = hid (fun k => x0 (ix3 b t k)) (fun k => x2 (ix2 1 k)) (fun k => x1 (ix2 b k)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v5, val_main_v4, val_main_v0, val_main_cst, val_main_cst_0, val_main_cst_1, val_main_cst_2]
  rfl

/-- The down projection. -/
theorem v37_apply (b : Fin 8) (t : Fin 8192) (o : Fin 1024) :
    val_main_v37 (F := Ideal) x0 x1 x2 x3 x4 (ix3 b t o)
      = down (fun k => val_main_v27 (F := Ideal) x0 x1 x2 (ix3 b t k)) (fun k f => x3 (ix3 1 k f)) (fun f o => x4 (ix3 1 f o)) o := by
  unfold val_main_v37 val_main_v36 val_main_v35 val_main_v34 val_main_v33 val_main_v32 val_main_v31 val_main_v30 val_main_v29 val_main_v28 val_main_call0_v5 val_main_call0_v4 val_main_call0_v3 val_main_call0_v2 val_main_call0_v1 val_main_call0_v0 val_main_call0_cst val_main_call0_cst_0 val_main_v31 val_main_v30 val_main_v29 val_main_v28
  generalize val_main_v27 (F := Ideal) x0 x1 x2 = H
  pointwise
  rfl

/-- The reference's result. -/
theorem v53_apply (b : Fin 8) (t : Fin 8192) (o : Fin 1024) :
    val_main_v53 (F := Ideal) x0 x1 x2 x3 x4 x5 (ix3 b t o)
      = out (fun k => x0 (ix3 b t k)) (fun k => x1 (ix2 b k)) (fun k => x2 (ix2 1 k)) (fun k f => x3 (ix3 1 k f)) (fun f o => x4 (ix3 1 f o)) (fun k => x5 (ix1 k)) o := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v6, val_main_v0, val_main_cst_3, val_main_cst_4, val_main_cst_5, v37_apply, v27_apply]
  rfl
end Cert.FfnRefIdeal.Hand
-- ==== Proof.Ffn.Value.lean ====
/- The feed-forward kernel's result array equals the reference's. -/
module
public import proofs.«01_k».proof.Defs
public import proofs.«01_k».proof.Proof.Gen.FfnRefIdeal.Run
public import proofs.«01_k».proof.Proof.Ffn.Block
public import proofs.«01_k».proof.Proof.Ffn.Ref
@[expose] public section
set_option maxRecDepth 16384
namespace Cert.FfnIdeal.Hand
open Cert.FfnIdeal Cert.FfnIdeal.Gen Idealize.ShloMosaic Idealize.ShloMosaic.TcCoe Idealize.SL.Sem Cert.FfnRow

variable (m : (ℓ : Loc nD τ sig) → Buf (Elt Ideal) ℓ)

/-- Which block each window stages at a grid point, as a function of the output's block. -/
theorem idx_facts : ∀ t : Fin cfg0.N,
    win0_0.index t = win0_6.index t ∧ win0_1.index t = ![win0_6.index t 0, 0, 0] ∧ win0_2.index t = ![0, 0]
      ∧ win0_3.index t = ![1, 0, 0] ∧ win0_4.index t = ![1, 0, 0] ∧ win0_5.index t = ![0, 0] ∧ win0_6.index t 2 = 0 :=
  (by decide +kernel : ∀ t : Fin grid0.N, _)

/-- The result array, index by index, as the branch on the argument arrays' row. -/
theorem arr_eq (c : Dev nD) :
    (dats m 0 c).arrAt 6 cfg0.N = fun i : S8x8192x1024.Idx =>
      out (fun k => m ((c : Thread nD τ).loc main_arg0) (ix3 (i 0) (i 1) k)) (fun k => m ((c : Thread nD τ).loc main_arg1) (ix2 (i 0) k))
        (fun k => m ((c : Thread nD τ).loc main_arg2) (ix2 1 k)) (fun k f => m ((c : Thread nD τ).loc main_arg3) (ix3 1 k f))
        (fun f o => m ((c : Thread nD τ).loc main_arg4) (ix3 1 f o)) (fun k => m ((c : Thread nD τ).loc main_arg5) (ix1 k)) (i 2) := by
  refine (dats m 0 c).arrAt_eq_of_covers 6 _ (by decide +kernel) fun t hf y => ?_
  blk_simp
  rw [after0_6, out_apply]
  obtain ⟨h0, h1, h2, h3, h4, h5, h6⟩ := idx_facts t
  congr 1
  · funext k
    blk_ext [iblk, V, h0, h6]
  · funext k
    blk_ext! [iblk, V, h1, h6]
  · funext k
    blk_ext! [iblk, V, h2, h6]
  · funext k f
    blk_ext [iblk, V, h3, h6]
  · funext f o
    blk_ext [iblk, V, h4, h6]
  · funext k
    blk_ext! [iblk, V, h5, h6]
  · refine Fin.ext ?_
    have e : ((((win0_6.blk t).view.emb y) 2 : Fin _) : ℕ) = win0_6.index t 2 * 1024 + ↑(y 2) := by blk_simp
    rw [h6, Nat.zero_mul, Nat.zero_add] at e
    exact e.symm

/-- The kernel's run and the reference's run end with equal result arrays. -/
theorem algebraic : Cert.algebraic_FfnIdeal_FfnRefIdeal := by
  intro m g m' g' _ hm
  refine ⟨fun c => (dats m 0 c).arrAt 6 cfg0.N, Value.run_blocks m g, ?_⟩
  refine (θ_run _ _ _).mono (fun r h c => ?_) (FfnRefIdeal.Value.run m' g')
  refine ⟨(h c).1.trans ?_, (h c).2⟩
  obtain ⟨e0, e1, e2, e3, e4, e5⟩ := hm c
  rw [FfnRefIdeal.Read.val_main_v53_eq, e0, e1, e2, e3, e4, e5]
  refine Eq.trans ?_ (arr_eq m c).symm
  funext i
  idx_vars i
  exact FfnRefIdeal.Hand.v53_apply _ _ _ _ _ _ i0 i1 i2
end Cert.FfnIdeal.Hand
-- ==== Proof.FfnFirst.Block.lean ====
/- What one grid point of the first layer's feed-forward call leaves in its output block: there is no last norm here. -/
module
public import proofs.«01_k».proof.Proof.Gen.FfnFirstIdeal.Value
public import proofs.«01_k».proof.Proof.Common.Sigmoid
public import proofs.«01_k».proof.Proof.Ffn.Row
public import Idealize.ShloMosaic.Lib.Pipeline.ValueKit
@[expose] public section
set_option maxRecDepth 16384
namespace Cert.FfnFirstIdeal.Hand
open Cert.FfnFirstIdeal Cert.FfnFirstIdeal.Gen Idealize.ShloMosaic Cert.FfnRow

variable (x0 : Vec Ideal S4x128x1024 .f32) (x1 : Vec Ideal S4x1x6144 .f32) (x2 : Vec Ideal S1x1024 .f32) (x3 : Vec Ideal S1x1024x5632 .bf16) (x4 : Vec Ideal S1x2816x1024 .bf16) (x5 : Vec Ideal S1x1024 .f32)

/-- Row `r` of stream `s` of the input block, modulated. -/
noncomputable abbrev hrow (s : Fin 4) (r : Fin 128) : Fin 1024 → EReal :=
  hid (fun k => x0 (ix3 s r k)) (fun k => x2 (ix2 0 k)) (fun k => x1 (ix3 s 0 k))

/-- The stacked rows of streams 0 and 1: the first 128 are stream 0's, the others stream 1's. -/
theorem rows01 (r : Fin 128) (c : Fin 1024) :
    k0_pay30 x0 x1 x2 x3 x4 x5 (ix2 ⟨r.val, by omega⟩ c) = hrow x0 x1 x2 0 r c
      ∧ k0_pay30 x0 x1 x2 x3 x4 x5 (ix2 ⟨128 + r.val, by omega⟩ c) = hrow x0 x1 x2 1 r c := by
  unfold k0_pay30 k0_pay29
  unfold_payloads
  constructor <;> (pointwise; rfl)

/-- The stacked rows of streams 2 and 3. -/
theorem rows23 (r : Fin 128) (c : Fin 1024) :
    k0_pay31 x0 x1 x2 x3 x4 x5 (ix2 ⟨r.val, by omega⟩ c) = hrow x0 x1 x2 2 r c
      ∧ k0_pay31 x0 x1 x2 x3 x4 x5 (ix2 ⟨128 + r.val, by omega⟩ c) = hrow x0 x1 x2 3 r c := by
  unfold k0_pay31 k0_pay29
  unfold_payloads
  constructor <;> (pointwise; rfl)

/-- The projections of the stacked rows of streams 0 and 1. -/
theorem down01 (q : Fin 256) (o : Fin 1024) :
    k0_pay32 x0 x1 x2 x3 x4 x5 (ix2 q o)
      = down (fun k => k0_pay30 x0 x1 x2 x3 x4 x5 (ix2 q k)) (fun k f => x3 (ix3 0 k f)) (fun f o => x4 (ix3 0 f o)) o := by
  rw [down, sum_cut]
  unfold k0_pay32
  generalize k0_pay30 x0 x1 x2 x3 x4 x5 = H
  unfold_payloads
  pointwise
  simp only [Cert.Common.sigmoid_word, act, ← Nat.add_assoc, Nat.reduceAdd]

/-- The projections of the stacked rows of streams 2 and 3. -/
theorem down23 (q : Fin 256) (o : Fin 1024) :
    k0_pay33 x0 x1 x2 x3 x4 x5 (ix2 q o)
      = down (fun k => k0_pay31 x0 x1 x2 x3 x4 x5 (ix2 q k)) (fun k f => x3 (ix3 0 k f)) (fun f o => x4 (ix3 0 f o)) o := by
  rw [down, sum_cut]
  unfold k0_pay33
  generalize k0_pay31 x0 x1 x2 x3 x4 x5 = H
  unfold_payloads
  pointwise
  simp only [Cert.Common.sigmoid_word, act, ← Nat.add_assoc, Nat.reduceAdd]

/-- The output block of one grid point: row `r` of stream `s` is that row plus the gated projections. -/
theorem out_apply (y : S4x128x1024.Idx) :
    out0_6 x0 x1 x2 x3 x4 x5 y
      = bare (fun k => x0 (ix3 (y 0) (y 1) k)) (fun k => x1 (ix3 (y 0) 0 k)) (fun k => x2 (ix2 0 k)) (fun k f => x3 (ix3 0 k f))
          (fun f o => x4 (ix3 0 f o)) (y 2) := by
  have l01 := fun r c => (rows01 x0 x1 x2 x3 x4 x5 r c).1
  have h01 := fun r c => (rows01 x0 x1 x2 x3 x4 x5 r c).2
  have l23 := fun r c => (rows23 x0 x1 x2 x3 x4 x5 r c).1
  have h23 := fun r c => (rows23 x0 x1 x2 x3 x4 x5 r c).2
  unfold out0_6
  canon_tiles z h
  all_goals
    idx_vars y
    idx_vars z
    obtain rfl : y1 = z1 := Fin.ext h1
    obtain rfl : y2 = z2 := Fin.ext h2
    obtain rfl : z0 = 0 := Subsingleton.elim _ _
  · obtain rfl : y0 = 3 := Fin.ext h0
    unfold k0_pay2
    pointwise [down23, h23]
    rfl
  · obtain rfl : y0 = 2 := Fin.ext h0
    unfold k0_pay1 k0_pay28
    pointwise [down23, l23]
    rfl
  · obtain rfl : y0 = 1 := Fin.ext h0
    unfold k0_pay27
    pointwise [down01, h01]
    rfl
  · obtain rfl : y0 = 0 := Fin.ext h0
    unfold k0_pay26
    pointwise [down01, l01]
    rfl
end Cert.FfnFirstIdeal.Hand
-- ==== Proof.FfnFirst.Ref.lean ====
/- What the first layer's feed-forward reference computes, element by element. -/
module
public import proofs.«01_k».proof.Proof.Gen.FfnFirstRefIdeal.Read
public import proofs.«01_k».proof.Proof.Ffn.Row
@[expose] public section
set_option maxRecDepth 16384
namespace Cert.FfnFirstRefIdeal.Hand
open Cert.FfnFirstRefIdeal Cert.FfnFirstRefIdeal.Gen Cert.FfnFirstRefIdeal.Read Idealize.ShloMosaic Cert.FfnRow

variable (x0 : (⟨S8x8192x1024, .f32⟩ : BufTy).Contents (Elt Ideal)) (x1 : (⟨S8x6144, .f32⟩ : BufTy).Contents (Elt Ideal)) (x2 : (⟨S2x1024, .f32⟩ : BufTy).Contents (Elt Ideal)) (x3 : (⟨S2x1024x5632, .f32⟩ : BufTy).Contents (Elt Ideal)) (x4 : (⟨S2x2816x1024, .f32⟩ : BufTy).Contents (Elt Ideal))

/-- Row `t` of batch element `b`, modulated. -/
theorem v27_apply (b : Fin 8) (t : Fin 8192) (k : Fin 1024) :
    val_main_v27 (F := Ideal) x0 x1 x2 (ix3 b t k) = hid (fun k => x0 (ix3 b t k)) (fun k => x2 (ix2 0 k)) (fun k => x1 (ix2 b k)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v5, val_main_v4, val_main_v0, val_main_cst, val_main_cst_0, val_main_cst_1, val_main_cst_2]
  rfl

/-- The down projection. -/
theorem v37_apply (b : Fin 8) (t : Fin 8192) (o : Fin 1024) :
    val_main_v37 (F := Ideal) x0 x1 x2 x3 x4 (ix3 b t o)
      = down (fun k => val_main_v27 (F := Ideal) x0 x1 x2 (ix3 b t k)) (fun k f => x3 (ix3 0 k f)) (fun f o => x4 (ix3 0 f o)) o := by
  unfold val_main_v37 val_main_v36 val_main_v35 val_main_v34 val_main_v33 val_main_v32 val_main_v31 val_main_v30 val_main_v29 val_main_v28 val_main_call0_v5 val_main_call0_v4 val_main_call0_v3 val_main_call0_v2 val_main_call0_v1 val_main_call0_v0 val_main_call0_cst val_main_call0_cst_0 val_main_v31 val_main_v30 val_main_v29 val_main_v28
  generalize val_main_v27 (F := Ideal) x0 x1 x2 = H
  pointwise
  rfl

/-- The reference's result. -/
theorem v40_apply (b : Fin 8) (t : Fin 8192) (o : Fin 1024) :
    val_main_v40 (F := Ideal) x0 x1 x2 x3 x4 (ix3 b t o)
      = bare (fun k => x0 (ix3 b t k)) (fun k => x1 (ix2 b k)) (fun k => x2 (ix2 0 k)) (fun k f => x3 (ix3 0 k f)) (fun f o => x4 (ix3 0 f o)) o := by
  pointwise [val_main_v40, val_main_v39, val_main_v38, val_main_v6, val_main_v0, v37_apply, v27_apply]
  rfl
end Cert.FfnFirstRefIdeal.Hand
-- ==== Proof.FfnFirst.Value.lean ====
/- The first layer's feed-forward call's result array equals the reference's. -/
module
public import proofs.«01_k».proof.Defs
public import proofs.«01_k».proof.Proof.Gen.FfnFirstRefIdeal.Run
public import proofs.«01_k».proof.Proof.FfnFirst.Block
public import proofs.«01_k».proof.Proof.FfnFirst.Ref
@[expose] public section
set_option maxRecDepth 16384
namespace Cert.FfnFirstIdeal.Hand
open Cert.FfnFirstIdeal Cert.FfnFirstIdeal.Gen Idealize.ShloMosaic Idealize.ShloMosaic.TcCoe Idealize.SL.Sem Cert.FfnRow

variable (m : (ℓ : Loc nD τ sig) → Buf (Elt Ideal) ℓ)

/-- Which block each window stages at a grid point, as a function of the output's block. -/
theorem idx_facts : ∀ t : Fin cfg0.N,
    win0_0.index t = win0_6.index t ∧ win0_1.index t = ![win0_6.index t 0, 0, 0] ∧ win0_2.index t = ![0, 0]
      ∧ win0_3.index t = ![0, 0, 0] ∧ win0_4.index t = ![0, 0, 0] ∧ win0_6.index t 2 = 0 :=
  (by decide +kernel : ∀ t : Fin grid0.N, _)

/-- The result array, index by index. -/
theorem arr_eq (c : Dev nD) :
    (dats m 0 c).arrAt 6 cfg0.N = fun i : S8x8192x1024.Idx =>
      bare (fun k => m ((c : Thread nD τ).loc main_arg0) (ix3 (i 0) (i 1) k)) (fun k => m ((c : Thread nD τ).loc main_arg1) (ix2 (i 0) k))
        (fun k => m ((c : Thread nD τ).loc main_arg2) (ix2 0 k)) (fun k f => m ((c : Thread nD τ).loc main_arg3) (ix3 0 k f))
        (fun f o => m ((c : Thread nD τ).loc main_arg4) (ix3 0 f o)) (i 2) := by
  refine (dats m 0 c).arrAt_eq_of_covers 6 _ (by decide +kernel) fun t hf y => ?_
  blk_simp
  rw [after0_6, out_apply]
  obtain ⟨h0, h1, h2, h3, h4, h6⟩ := idx_facts t
  congr 1
  · funext k
    blk_ext [iblk, V, h0, h6]
  · funext k
    blk_ext! [iblk, V, h1, h6]
  · funext k
    blk_ext! [iblk, V, h2, h6]
  · funext k f
    blk_ext [iblk, V, h3, h6]
  · funext f o
    blk_ext [iblk, V, h4, h6]
  · refine Fin.ext ?_
    have e : ((((win0_6.blk t).view.emb y) 2 : Fin _) : ℕ) = win0_6.index t 2 * 1024 + ↑(y 2) := by blk_simp
    rw [h6, Nat.zero_mul, Nat.zero_add] at e
    exact e.symm

/-- The kernel's run and the reference's run end with equal result arrays. -/
theorem algebraic : Cert.algebraic_FfnFirstIdeal_FfnFirstRefIdeal := by
  intro m g m' g' _ hm
  refine ⟨fun c => (dats m 0 c).arrAt 6 cfg0.N, Value.run_blocks m g, ?_⟩
  refine (θ_run _ _ _).mono (fun r h c => ?_) (FfnFirstRefIdeal.Value.run m' g')
  refine ⟨(h c).1.trans ?_, (h c).2⟩
  obtain ⟨e0, e1, e2, e3, e4, e5⟩ := hm c
  rw [FfnFirstRefIdeal.Read.val_main_v40_eq, e0, e1, e2, e3, e4]
  refine Eq.trans ?_ (arr_eq m c).symm
  funext i
  idx_vars i
  exact FfnFirstRefIdeal.Hand.v40_apply _ _ _ _ _ i0 i1 i2
end Cert.FfnFirstIdeal.Hand
-- ==== Proof.FfnSample.Block.lean ====
/- What one grid point of the sample's feed-forward call leaves in its output block, row by row. -/
module
public import proofs.«01_k».proof.Proof.Gen.FfnSampleIdeal.Value
public import proofs.«01_k».proof.Proof.Common.Sigmoid
public import proofs.«01_k».proof.Proof.Ffn.Row
public import Idealize.ShloMosaic.Lib.Pipeline.ValueKit
@[expose] public section
set_option maxRecDepth 16384
namespace Cert.FfnSampleIdeal.Hand
open Cert.FfnSampleIdeal Cert.FfnSampleIdeal.Gen Idealize.ShloMosaic Cert.FfnRow

variable (x0 : Vec Ideal S8x64x1024 .f32) (x1 : Vec Ideal S8x1x6144 .f32) (x2 : Vec Ideal S1x1024 .f32) (x3 : Vec Ideal S1x1024x5632 .bf16) (x4 : Vec Ideal S1x2816x1024 .bf16) (x5 : Vec Ideal S1x1024 .f32)

/-- Row `r` of stream `s` of the input block, modulated. -/
noncomputable abbrev hrow (s : Fin 8) (r : Fin 64) : Fin 1024 → EReal :=
  hid (fun k => x0 (ix3 s r k)) (fun k => x2 (ix2 0 k)) (fun k => x1 (ix3 s 0 k))

/-- Rows of streams 0 to 3, stacked. -/
theorem first_rows (j : Fin 4) (r : Fin 64) (c : Fin 1024) :
    k0_pay45 x0 x1 x2 x3 x4 x5 (ix2 ⟨64 * j.val + r.val, by omega⟩ c) = hrow x0 x1 x2 ⟨j.val, by omega⟩ r c := by
  match j with
  | 0 | 1 | 2 | 3 =>
    unfold k0_pay45 k0_pay44
    unfold_payloads
    pointwise
    have hr := r.isLt
    try simp only [show ¬ 128 + r.val < 64 by omega, show ¬ 128 + r.val - 64 < 64 by omega, show 128 + r.val - 64 - 64 = r.val by omega,
      show ¬ 192 + r.val < 64 by omega, show ¬ 192 + r.val - 64 < 64 by omega, show ¬ 192 + r.val - 64 - 64 < 64 by omega,
      show 192 + r.val - 64 - 64 - 64 = r.val by omega, show ¬ 64 + r.val < 64 by omega, show 64 + r.val - 64 = r.val by omega, hr, dite_true, dite_false]
    rfl

/-- Rows of streams 4 to 7, stacked. -/
theorem last_rows (j : Fin 4) (r : Fin 64) (c : Fin 1024) :
    k0_pay46 x0 x1 x2 x3 x4 x5 (ix2 ⟨64 * j.val + r.val, by omega⟩ c) = hrow x0 x1 x2 ⟨4 + j.val, by omega⟩ r c := by
  match j with
  | 0 | 1 | 2 | 3 =>
    unfold k0_pay46 k0_pay44
    unfold_payloads
    pointwise
    have hr := r.isLt
    try simp only [show ¬ 128 + r.val < 64 by omega, show ¬ 128 + r.val - 64 < 64 by omega, show 128 + r.val - 64 - 64 = r.val by omega,
      show ¬ 192 + r.val < 64 by omega, show ¬ 192 + r.val - 64 < 64 by omega, show ¬ 192 + r.val - 64 - 64 < 64 by omega,
      show 192 + r.val - 64 - 64 - 64 = r.val by omega, show ¬ 64 + r.val < 64 by omega, show 64 + r.val - 64 = r.val by omega, hr, dite_true, dite_false]
    rfl

/-- The down projection of the first four streams' rows. -/
theorem first_down (q : Fin 256) (o : Fin 1024) :
    k0_pay47 x0 x1 x2 x3 x4 x5 (ix2 q o)
      = down (fun k => k0_pay45 x0 x1 x2 x3 x4 x5 (ix2 q k)) (fun k f => x3 (ix3 0 k f)) (fun f o => x4 (ix3 0 f o)) o := by
  rw [down, sum_cut]
  unfold k0_pay47
  generalize k0_pay45 x0 x1 x2 x3 x4 x5 = H
  unfold_payloads
  pointwise
  simp only [Cert.Common.sigmoid_word, act, ← Nat.add_assoc, Nat.reduceAdd]

/-- The down projection of the last four streams' rows. -/
theorem last_down (q : Fin 256) (o : Fin 1024) :
    k0_pay48 x0 x1 x2 x3 x4 x5 (ix2 q o)
      = down (fun k => k0_pay46 x0 x1 x2 x3 x4 x5 (ix2 q k)) (fun k f => x3 (ix3 0 k f)) (fun f o => x4 (ix3 0 f o)) o := by
  rw [down, sum_cut]
  unfold k0_pay48
  generalize k0_pay46 x0 x1 x2 x3 x4 x5 = H
  unfold_payloads
  pointwise
  simp only [Cert.Common.sigmoid_word, act, ← Nat.add_assoc, Nat.reduceAdd]

/-- Row `r` of one of the first four streams, through the projections. -/
theorem first_out (j : Fin 4) (r : Fin 64) (o : Fin 1024) :
    k0_pay47 x0 x1 x2 x3 x4 x5 (ix2 ⟨64 * j.val + r.val, by omega⟩ o)
      = down (hrow x0 x1 x2 ⟨j.val, by omega⟩ r) (fun k f => x3 (ix3 0 k f)) (fun f o => x4 (ix3 0 f o)) o := by
  rw [first_down]
  simp only [first_rows]

/-- Row `r` of one of the last four streams, through the projections. -/
theorem last_out (j : Fin 4) (r : Fin 64) (o : Fin 1024) :
    k0_pay48 x0 x1 x2 x3 x4 x5 (ix2 ⟨64 * j.val + r.val, by omega⟩ o)
      = down (hrow x0 x1 x2 ⟨4 + j.val, by omega⟩ r) (fun k f => x3 (ix3 0 k f)) (fun f o => x4 (ix3 0 f o)) o := by
  rw [last_down]
  simp only [last_rows]

/-- The output block of one grid point: row `r` of stream `s` is the branch on that row. -/
theorem out_apply (y : S8x64x1024.Idx) :
    out0_6 x0 x1 x2 x3 x4 x5 y
      = out (fun k => x0 (ix3 (y 0) (y 1) k)) (fun k => x1 (ix3 (y 0) 0 k)) (fun k => x2 (ix2 0 k)) (fun k f => x3 (ix3 0 k f))
          (fun f o => x4 (ix3 0 f o)) (fun k => x5 (ix2 0 k)) (y 2) := by
  unfold out0_6
  canon_tiles z h
  all_goals
    idx_vars y
    idx_vars z
    obtain rfl : y1 = z1 := Fin.ext h1
    obtain rfl : y2 = z2 := Fin.ext h2
    obtain rfl : z0 = 0 := Subsingleton.elim _ _
  · obtain rfl : y0 = 7 := Fin.ext h0
    have e : ∀ k, k0_pay48 x0 x1 x2 x3 x4 x5 (ix2 ⟨192 + y1.val, by omega⟩ k) = _ := fun k => last_out x0 x1 x2 x3 x4 x5 3 y1 k
    unfold k0_pay2
    pointwise [e]
    rfl
  · obtain rfl : y0 = 6 := Fin.ext h0
    have e : ∀ k, k0_pay48 x0 x1 x2 x3 x4 x5 (ix2 ⟨128 + y1.val, by omega⟩ k) = _ := fun k => last_out x0 x1 x2 x3 x4 x5 2 y1 k
    unfold k0_pay1 k0_pay43
    pointwise [e]
    rfl
  · obtain rfl : y0 = 5 := Fin.ext h0
    have e : ∀ k, k0_pay48 x0 x1 x2 x3 x4 x5 (ix2 ⟨64 + y1.val, by omega⟩ k) = _ := fun k => last_out x0 x1 x2 x3 x4 x5 1 y1 k
    unfold k0_pay42 k0_pay41 k0_pay40
    pointwise [e]
    rfl
  · obtain rfl : y0 = 4 := Fin.ext h0
    have e : ∀ k, k0_pay48 x0 x1 x2 x3 x4 x5 (ix2 ⟨y1.val, by omega⟩ k) = _ := fun k => (congrArg _ (congrArg (fun q => ix2 q k) (Fin.ext (by show y1.val = 64 * 0 + y1.val; omega)))).trans (last_out x0 x1 x2 x3 x4 x5 0 y1 k)
    unfold k0_pay39
    pointwise [e]
    rfl
  · obtain rfl : y0 = 3 := Fin.ext h0
    have e : ∀ k, k0_pay47 x0 x1 x2 x3 x4 x5 (ix2 ⟨192 + y1.val, by omega⟩ k) = _ := fun k => first_out x0 x1 x2 x3 x4 x5 3 y1 k
    unfold k0_pay38
    pointwise [e]
    rfl
  · obtain rfl : y0 = 2 := Fin.ext h0
    have e : ∀ k, k0_pay47 x0 x1 x2 x3 x4 x5 (ix2 ⟨128 + y1.val, by omega⟩ k) = _ := fun k => first_out x0 x1 x2 x3 x4 x5 2 y1 k
    unfold k0_pay37 k0_pay36 k0_pay35
    pointwise [e]
    rfl
  · obtain rfl : y0 = 1 := Fin.ext h0
    have e : ∀ k, k0_pay47 x0 x1 x2 x3 x4 x5 (ix2 ⟨64 + y1.val, by omega⟩ k) = _ := fun k => first_out x0 x1 x2 x3 x4 x5 1 y1 k
    unfold k0_pay34
    pointwise [e]
    rfl
  · obtain rfl : y0 = 0 := Fin.ext h0
    have e : ∀ k, k0_pay47 x0 x1 x2 x3 x4 x5 (ix2 ⟨y1.val, by omega⟩ k) = _ := fun k => (congrArg _ (congrArg (fun q => ix2 q k) (Fin.ext (by show y1.val = 64 * 0 + y1.val; omega)))).trans (first_out x0 x1 x2 x3 x4 x5 0 y1 k)
    unfold k0_pay33
    pointwise [e]
    rfl
end Cert.FfnSampleIdeal.Hand
-- ==== Proof.FfnSample.Ref.lean ====
/- What the sample's feed-forward reference computes, element by element. -/
module
public import proofs.«01_k».proof.Proof.Gen.FfnSampleRefIdeal.Read
public import proofs.«01_k».proof.Proof.Ffn.Row
@[expose] public section
set_option maxRecDepth 16384
namespace Cert.FfnSampleRefIdeal.Hand
open Cert.FfnSampleRefIdeal Cert.FfnSampleRefIdeal.Gen Cert.FfnSampleRefIdeal.Read Idealize.ShloMosaic Cert.FfnRow

variable (x0 : (⟨S32x64x1024, .f32⟩ : BufTy).Contents (Elt Ideal)) (x1 : (⟨S32x6144, .f32⟩ : BufTy).Contents (Elt Ideal)) (x2 : (⟨S2x1024, .f32⟩ : BufTy).Contents (Elt Ideal)) (x3 : (⟨S2x1024x5632, .f32⟩ : BufTy).Contents (Elt Ideal)) (x4 : (⟨S2x2816x1024, .f32⟩ : BufTy).Contents (Elt Ideal)) (x5 : (⟨S1024, .f32⟩ : BufTy).Contents (Elt Ideal))

/-- Row `t` of batch element `b`, modulated. -/
theorem v27_apply (b : Fin 32) (t : Fin 64) (k : Fin 1024) :
    val_main_v27 (F := Ideal) x0 x1 x2 (ix3 b t k) = hid (fun k => x0 (ix3 b t k)) (fun k => x2 (ix2 1 k)) (fun k => x1 (ix2 b k)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v5, val_main_v4, val_main_v0, val_main_cst, val_main_cst_0, val_main_cst_1, val_main_cst_2]
  rfl

/-- The down projection. -/
theorem v37_apply (b : Fin 32) (t : Fin 64) (o : Fin 1024) :
    val_main_v37 (F := Ideal) x0 x1 x2 x3 x4 (ix3 b t o)
      = down (fun k => val_main_v27 (F := Ideal) x0 x1 x2 (ix3 b t k)) (fun k f => x3 (ix3 1 k f)) (fun f o => x4 (ix3 1 f o)) o := by
  unfold val_main_v37 val_main_v36 val_main_v35 val_main_v34 val_main_v33 val_main_v32 val_main_v31 val_main_v30 val_main_v29 val_main_v28 val_main_call0_v5 val_main_call0_v4 val_main_call0_v3 val_main_call0_v2 val_main_call0_v1 val_main_call0_v0 val_main_call0_cst val_main_call0_cst_0 val_main_v31 val_main_v30 val_main_v29 val_main_v28
  generalize val_main_v27 (F := Ideal) x0 x1 x2 = H
  pointwise
  rfl

/-- The reference's result. -/
theorem v53_apply (b : Fin 32) (t : Fin 64) (o : Fin 1024) :
    val_main_v53 (F := Ideal) x0 x1 x2 x3 x4 x5 (ix3 b t o)
      = out (fun k => x0 (ix3 b t k)) (fun k => x1 (ix2 b k)) (fun k => x2 (ix2 1 k)) (fun k f => x3 (ix3 1 k f)) (fun f o => x4 (ix3 1 f o)) (fun k => x5 (ix1 k)) o := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v6, val_main_v0, val_main_cst_3, val_main_cst_4, val_main_cst_5, v37_apply, v27_apply]
  rfl
end Cert.FfnSampleRefIdeal.Hand
-- ==== Proof.FfnSample.Value.lean ====
/- The sample's feed-forward call's result array equals the reference's. -/
module
public import proofs.«01_k».proof.Defs
public import proofs.«01_k».proof.Proof.Gen.FfnSampleRefIdeal.Run
public import proofs.«01_k».proof.Proof.FfnSample.Block
public import proofs.«01_k».proof.Proof.FfnSample.Ref
@[expose] public section
set_option maxRecDepth 16384
namespace Cert.FfnSampleIdeal.Hand
open Cert.FfnSampleIdeal Cert.FfnSampleIdeal.Gen Idealize.ShloMosaic Idealize.ShloMosaic.TcCoe Idealize.SL.Sem Cert.FfnRow

variable (m : (ℓ : Loc nD τ sig) → Buf (Elt Ideal) ℓ)

/-- Which block each window stages at a grid point, as a function of the output's block. -/
theorem idx_facts : ∀ t : Fin cfg0.N,
    win0_0.index t = win0_6.index t ∧ win0_1.index t = ![win0_6.index t 0, 0, 0] ∧ win0_2.index t = ![0, 0]
      ∧ win0_3.index t = ![1, 0, 0] ∧ win0_4.index t = ![1, 0, 0] ∧ win0_5.index t = ![0, 0] ∧ win0_6.index t 2 = 0 :=
  (by decide +kernel : ∀ t : Fin grid0.N, _)

/-- The result array, index by index, as the branch on the argument arrays' row. -/
theorem arr_eq (c : Dev nD) :
    (dats m 0 c).arrAt 6 cfg0.N = fun i : S32x64x1024.Idx =>
      out (fun k => m ((c : Thread nD τ).loc main_arg0) (ix3 (i 0) (i 1) k)) (fun k => m ((c : Thread nD τ).loc main_arg1) (ix2 (i 0) k))
        (fun k => m ((c : Thread nD τ).loc main_arg2) (ix2 1 k)) (fun k f => m ((c : Thread nD τ).loc main_arg3) (ix3 1 k f))
        (fun f o => m ((c : Thread nD τ).loc main_arg4) (ix3 1 f o)) (fun k => m ((c : Thread nD τ).loc main_arg5) (ix1 k)) (i 2) := by
  refine (dats m 0 c).arrAt_eq_of_covers 6 _ (by decide +kernel) fun t hf y => ?_
  blk_simp
  rw [after0_6, out_apply]
  obtain ⟨h0, h1, h2, h3, h4, h5, h6⟩ := idx_facts t
  congr 1
  · funext k
    blk_ext [iblk, V, h0, h6]
  · funext k
    blk_ext! [iblk, V, h1, h6]
  · funext k
    blk_ext! [iblk, V, h2, h6]
  · funext k f
    blk_ext [iblk, V, h3, h6]
  · funext f o
    blk_ext [iblk, V, h4, h6]
  · funext k
    blk_ext! [iblk, V, h5, h6]
  · refine Fin.ext ?_
    have e : ((((win0_6.blk t).view.emb y) 2 : Fin _) : ℕ) = win0_6.index t 2 * 1024 + ↑(y 2) := by blk_simp
    rw [h6, Nat.zero_mul, Nat.zero_add] at e
    exact e.symm

/-- The kernel's run and the reference's run end with equal result arrays. -/
theorem algebraic : Cert.algebraic_FfnSampleIdeal_FfnSampleRefIdeal := by
  intro m g m' g' _ hm
  refine ⟨fun c => (dats m 0 c).arrAt 6 cfg0.N, Value.run_blocks m g, ?_⟩
  refine (θ_run _ _ _).mono (fun r h c => ?_) (FfnSampleRefIdeal.Value.run m' g')
  refine ⟨(h c).1.trans ?_, (h c).2⟩
  obtain ⟨e0, e1, e2, e3, e4, e5⟩ := hm c
  rw [FfnSampleRefIdeal.Read.val_main_v53_eq, e0, e1, e2, e3, e4, e5]
  refine Eq.trans ?_ (arr_eq m c).symm
  funext i
  idx_vars i
  exact FfnSampleRefIdeal.Hand.v53_apply _ _ _ _ _ _ i0 i1 i2
end Cert.FfnSampleIdeal.Hand
-- ==== Proof.Mixer.Body.lean ====
module

public import proofs.«01_k».proof.Proof.Gen.KernelIdeal.Frame
public import proofs.«01_k».proof.Proof.Gen.KernelIdeal.Launch
public import proofs.«01_k».proof.Proof.Gen.KernelIdeal.Points
public import Idealize.ShloMosaic.Lib.Tactic
public import Idealize.ShloMosaic.Lib.Pipeline.DatRel
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

/-- The blocks one grid point of the mixer reads. -/
structure Ins (F : FTy → Type) where
  /-- x, this point's rows -/
  x2 : Vec F S8x64x1024 .f32
  /-- x again, the rows of the next point -/
  x3 : Vec F S8x64x1024 .f32
  /-- the modulation -/
  x4 : Vec F S8x1x6144 .f32
  /-- the gain of the norm -/
  x5 : Vec F S1x1024 .f32
  /-- W_in -/
  x6 : Vec F S1x1024x3456 .bf16
  /-- taps of the convolution A -/
  x7 : Vec F S3x256 .f32
  /-- taps of the convolution B -/
  x8 : Vec F S31x256 .f32
  /-- bias of the convolution B -/
  x9 : Vec F S1x256 .f32
  /-- LayerNorm gain -/
  x10 : Vec F S1x256 .f32
  /-- LayerNorm bias -/
  x11 : Vec F S1x256 .f32
  /-- taps of the convolution of q, k and v -/
  x12 : Vec F S4x1536 .f32
  /-- the decay's logarithm -/
  x13 : Vec F S1x128 .f32
  /-- the decay's bias -/
  x14 : Vec F S1x128 .f32
  /-- the gain of the output norm -/
  x15 : Vec F S1x128 .f32
  /-- W_out -/
  x16 : Vec F S1x1024x1024 .bf16
  /-- state of the convolution A -/
  x17 : Vec F S1x8x2x256 .f32
  /-- state of the convolution B -/
  x18 : Vec F S1x8x30x256 .f32
  /-- state of the convolution of q, k and v -/
  x19 : Vec F S1x8x3x1536 .f32
  /-- state of the delta rule -/
  x20 : Vec F S1x8x4x128x128 .f32

/-- The blocks one grid point of the mixer writes. -/
structure Outs (F : FTy → Type) where
  /-- the layer's rows -/
  o : Vec F S8x64x1024 .f32
  /-- next state of the convolution A -/
  na : Vec F S8x2x256 .f32
  /-- next state of the convolution B -/
  nb : Vec F S8x30x256 .f32
  /-- next state of the convolution of q, k and v -/
  nq : Vec F S8x3x1536 .f32
  /-- next state of the delta rule -/
  ns : Vec F S8x4x128x128 .f32

/-- What is asked of each written block, given the blocks read. -/
structure Asked (F : FTy → Type) where
  /-- of the layer's rows -/
  o : Ins F → Vec F S8x64x1024 .f32 → Prop
  /-- of next state of the convolution A -/
  na : Ins F → Vec F S8x2x256 .f32 → Prop
  /-- of next state of the convolution B -/
  nb : Ins F → Vec F S8x30x256 .f32 → Prop
  /-- of next state of the convolution of q, k and v -/
  nq : Ins F → Vec F S8x3x1536 .f32 → Prop
  /-- of next state of the delta rule -/
  ns : Ins F → Vec F S8x4x128x128 .f32 → Prop

/-- The written blocks are as asked. -/
def Asked.Met (R : Asked F) (I : Ins F) (O : Outs F) : Prop :=
  R.o I O.o ∧ R.na I O.na ∧ R.nb I O.nb ∧ R.nq I O.nq ∧ R.ns I O.ns

/-- The body's triple: from the read blocks whole at `I`, the written blocks and the scratch at anything, the body runs to its return,
    hands the read blocks back unchanged, the scratch at anything, and the written blocks as `R` asks. Both of the body's branches are
    taken: its grid has one point along the time axis. -/
def BodyRuns (R : Asked F) : Prop :=
  ∀ (c : Dev nD) (E : Set ℕ) (i : grid0.Coords) (_ : k0_cond1 i = 1#1) (_ : k0_cond2 i = 1#1)
    (arg2 : Memref sig .tc .vmem S8x64x1024 .f32) (harg2 : arg2.IsWhole)
    (arg3 : Memref sig .tc .vmem S8x64x1024 .f32) (harg3 : arg3.IsWhole)
    (arg4 : Memref sig .tc .vmem S8x1x6144 .f32) (harg4 : arg4.IsWhole)
    (arg5 : Memref sig .tc .vmem S1x1024 .f32) (harg5 : arg5.IsWhole)
    (arg6 : Memref sig .tc .vmem S1x1024x3456 .bf16) (harg6 : arg6.IsWhole)
    (arg7 : Memref sig .tc .vmem S3x256 .f32) (harg7 : arg7.IsWhole)
    (arg8 : Memref sig .tc .vmem S31x256 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S4x1536 .f32) (harg12 : arg12.IsWhole)
    (arg13 : Memref sig .tc .vmem S1x128 .f32) (harg13 : arg13.IsWhole)
    (arg14 : Memref sig .tc .vmem S1x128 .f32) (harg14 : arg14.IsWhole)
    (arg15 : Memref sig .tc .vmem S1x128 .f32) (harg15 : arg15.IsWhole)
    (arg16 : Memref sig .tc .vmem S1x1024x1024 .bf16) (harg16 : arg16.IsWhole)
    (arg17 : Memref sig .tc .vmem S1x8x2x256 .f32) (harg17 : arg17.IsWhole)
    (arg18 : Memref sig .tc .vmem S1x8x30x256 .f32) (harg18 : arg18.IsWhole)
    (arg19 : Memref sig .tc .vmem S1x8x3x1536 .f32) (harg19 : arg19.IsWhole)
    (arg20 : Memref sig .tc .vmem S1x8x4x128x128 .f32) (harg20 : arg20.IsWhole)
    (arg21 : Memref sig .tc .vmem S8x64x1024 .f32) (harg21 : arg21.IsWhole)
    (arg22 : Memref sig .tc .vmem S8x2x256 .f32) (harg22 : arg22.IsWhole)
    (arg23 : Memref sig .tc .vmem S8x30x256 .f32) (harg23 : arg23.IsWhole)
    (arg24 : Memref sig .tc .vmem S8x3x1536 .f32) (harg24 : arg24.IsWhole)
    (arg25 : Memref sig .tc .vmem S8x4x128x128 .f32) (harg25 : arg25.IsWhole)
    (arg26 : Memref sig .tc .vmem S2x8x72x256 .f32) (harg26 : arg26.IsWhole)
    (arg27 : Memref sig .tc .vmem S2x8x64x256 .f32) (harg27 : arg27.IsWhole)
    (arg28 : Memref sig .tc .vmem S2x8x96x256 .f32) (harg28 : arg28.IsWhole)
    (arg29 : Memref sig .tc .vmem S2x8x72x1536 .f32) (harg29 : arg29.IsWhole)
    (arg30 : Memref sig .tc .vmem S2x8x64x512 .f32) (harg30 : arg30.IsWhole)
    (arg31 : Memref sig .tc .vmem S2x8x64x128 .f32) (harg31 : arg31.IsWhole)
    (arg32 : Memref sig .tc .vmem S8x2x64x1536 .f32) (harg32 : arg32.IsWhole)
    (arg33 : Memref sig .tc .vmem S8x2x64x512 .bf16) (harg33 : arg33.IsWhole)
    (arg34 : Memref sig .tc .vmem S8x2x64x128 .f32) (harg34 : arg34.IsWhole)
    (I : Ins F) (K : PUnit → sProp 𝕄),
    iprop(owns (c : Thread nD τ) arg2 fullShare I.x2
      ∗ owns (c : Thread nD τ) arg3 fullShare I.x3
      ∗ owns (c : Thread nD τ) arg4 fullShare I.x4
      ∗ owns (c : Thread nD τ) arg5 fullShare I.x5
      ∗ owns (c : Thread nD τ) arg6 fullShare I.x6
      ∗ owns (c : Thread nD τ) arg7 fullShare I.x7
      ∗ owns (c : Thread nD τ) arg8 fullShare I.x8
      ∗ owns (c : Thread nD τ) arg9 fullShare I.x9
      ∗ owns (c : Thread nD τ) arg10 fullShare I.x10
      ∗ owns (c : Thread nD τ) arg11 fullShare I.x11
      ∗ owns (c : Thread nD τ) arg12 fullShare I.x12
      ∗ owns (c : Thread nD τ) arg13 fullShare I.x13
      ∗ owns (c : Thread nD τ) arg14 fullShare I.x14
      ∗ owns (c : Thread nD τ) arg15 fullShare I.x15
      ∗ owns (c : Thread nD τ) arg16 fullShare I.x16
      ∗ owns (c : Thread nD τ) arg17 fullShare I.x17
      ∗ owns (c : Thread nD τ) arg18 fullShare I.x18
      ∗ owns (c : Thread nD τ) arg19 fullShare I.x19
      ∗ owns (c : Thread nD τ) arg20 fullShare I.x20
      ∗ (∃ X, owns (c : Thread nD τ) arg21 fullShare X)
      ∗ (∃ X, owns (c : Thread nD τ) arg22 fullShare X)
      ∗ (∃ X, owns (c : Thread nD τ) arg23 fullShare X)
      ∗ (∃ X, owns (c : Thread nD τ) arg24 fullShare X)
      ∗ (∃ X, owns (c : Thread nD τ) arg25 fullShare X)
      ∗ (∃ X, owns (c : Thread nD τ) arg26 fullShare X)
      ∗ (∃ X, owns (c : Thread nD τ) arg27 fullShare X)
      ∗ (∃ X, owns (c : Thread nD τ) arg28 fullShare X)
      ∗ (∃ X, owns (c : Thread nD τ) arg29 fullShare X)
      ∗ (∃ X, owns (c : Thread nD τ) arg30 fullShare X)
      ∗ (∃ X, owns (c : Thread nD τ) arg31 fullShare X)
      ∗ (∃ X, owns (c : Thread nD τ) arg32 fullShare X)
      ∗ (∃ X, owns (c : Thread nD τ) arg33 fullShare X)
      ∗ (∃ X, owns (c : Thread nD τ) arg34 fullShare X)
      ∗ (iprop(∃ O : Outs F, ⌜R.Met I O⌝
        ∗ owns (c : Thread nD τ) arg2 fullShare I.x2
      ∗   owns (c : Thread nD τ) arg3 fullShare I.x3
      ∗   owns (c : Thread nD τ) arg4 fullShare I.x4
      ∗   owns (c : Thread nD τ) arg5 fullShare I.x5
      ∗   owns (c : Thread nD τ) arg6 fullShare I.x6
      ∗   owns (c : Thread nD τ) arg7 fullShare I.x7
      ∗   owns (c : Thread nD τ) arg8 fullShare I.x8
      ∗   owns (c : Thread nD τ) arg9 fullShare I.x9
      ∗   owns (c : Thread nD τ) arg10 fullShare I.x10
      ∗   owns (c : Thread nD τ) arg11 fullShare I.x11
      ∗   owns (c : Thread nD τ) arg12 fullShare I.x12
      ∗   owns (c : Thread nD τ) arg13 fullShare I.x13
      ∗   owns (c : Thread nD τ) arg14 fullShare I.x14
      ∗   owns (c : Thread nD τ) arg15 fullShare I.x15
      ∗   owns (c : Thread nD τ) arg16 fullShare I.x16
      ∗   owns (c : Thread nD τ) arg17 fullShare I.x17
      ∗   owns (c : Thread nD τ) arg18 fullShare I.x18
      ∗   owns (c : Thread nD τ) arg19 fullShare I.x19
      ∗   owns (c : Thread nD τ) arg20 fullShare I.x20
      ∗   owns (c : Thread nD τ) arg21 fullShare O.o
      ∗   owns (c : Thread nD τ) arg22 fullShare O.na
      ∗   owns (c : Thread nD τ) arg23 fullShare O.nb
      ∗   owns (c : Thread nD τ) arg24 fullShare O.nq
      ∗   owns (c : Thread nD τ) arg25 fullShare O.ns
      ∗   (∃ X, owns (c : Thread nD τ) arg26 fullShare X)
      ∗   (∃ X, owns (c : Thread nD τ) arg27 fullShare X)
      ∗   (∃ X, owns (c : Thread nD τ) arg28 fullShare X)
      ∗   (∃ X, owns (c : Thread nD τ) arg29 fullShare X)
      ∗   (∃ X, owns (c : Thread nD τ) arg30 fullShare X)
      ∗   (∃ X, owns (c : Thread nD τ) arg31 fullShare X)
      ∗   (∃ X, owns (c : Thread nD τ) arg32 fullShare X)
      ∗   (∃ X, owns (c : Thread nD τ) arg33 fullShare X)
      ∗   (∃ X, owns (c : Thread nD τ) arg34 fullShare X)) -∗ K ⟨⟩))
    ⊢ wp frame (wpE (defs₀ (F := F)) Variants.none c none) E
      (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K

/-! ## The launch's data -/

variable (m : (ℓ : Loc nD τ sig) → Buf (Elt F) ℓ) (ρ : Dev nD → PrngReg)

/-- The blocks point `t` reads on core `c`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- The windows that are written: what they hold is said by a predicate. -/
def written (w : Fin 24) : Bool := Nat.ble 19 w.val

/-- The data of the launch on core `c`: the arrays as found, an input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => Pipeline.Dat.unnamed (cfg := cfg0) 19 t
    | ⟨20, _⟩ => Pipeline.Dat.unnamed (cfg := cfg0) 20 t
    | ⟨21, _⟩ => Pipeline.Dat.unnamed (cfg := cfg0) 21 t
    | ⟨22, _⟩ => Pipeline.Dat.unnamed (cfg := cfg0) 22 t
    | ⟨23, _⟩ => Pipeline.Dat.unnamed (cfg := cfg0) 23 t
    | ⟨n + 24, h⟩ => (Nat.not_lt_of_le (Nat.le_add_left 24 n) h).elim
  Φ _ := Pipeline.ΦA spec0 c
  q := Pipeline.shareOf spec0
  owed _ := 0

/-- What a written window's buffer is held to at point `t`. -/
def Rl (R : Asked F) (c : Dev nD) (w : Fin cfg0.W) (t : Fin cfg0.N) : ((cfg0.win w).block.Idx → Elt F (cfg0.win w).elt) → Prop :=
  match w with
  | ⟨19, _⟩ => R.o (insAt m c t)
  | ⟨20, _⟩ => R.na (insAt m c t)
  | ⟨21, _⟩ => R.nb (insAt m c t)
  | ⟨22, _⟩ => R.nq (insAt m c t)
  | ⟨23, _⟩ => R.ns (insAt m c t)
  | _ => fun _ => True

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d
theorem before0_11 (c : Dev nD) (t : Fin cfg0.N) (d) : (dats m 0 c).before 11 t d = iblk m c 11 t :=
  before0_11_of m (dats m 0 c) (A_eq m c 11) (fun t => by dsimp only [dats]) t d
theorem before0_12 (c : Dev nD) (t : Fin cfg0.N) (d) : (dats m 0 c).before 12 t d = iblk m c 12 t :=
  before0_12_of m (dats m 0 c) (A_eq m c 12) (fun t => by dsimp only [dats]) t d
theorem before0_13 (c : Dev nD) (t : Fin cfg0.N) (d) : (dats m 0 c).before 13 t d = iblk m c 13 t :=
  before0_13_of m (dats m 0 c) (A_eq m c 13) (fun t => by dsimp only [dats]) t d
theorem before0_14 (c : Dev nD) (t : Fin cfg0.N) (d) : (dats m 0 c).before 14 t d = iblk m c 14 t :=
  before0_14_of m (dats m 0 c) (A_eq m c 14) (fun t => by dsimp only [dats]) t d
theorem before0_15 (c : Dev nD) (t : Fin cfg0.N) (d) : (dats m 0 c).before 15 t d = iblk m c 15 t :=
  before0_15_of m (dats m 0 c) (A_eq m c 15) (fun t => by dsimp only [dats]) t d
theorem before0_16 (c : Dev nD) (t : Fin cfg0.N) (d) : (dats m 0 c).before 16 t d = iblk m c 16 t :=
  before0_16_of m (dats m 0 c) (A_eq m c 16) (fun t => by dsimp only [dats]) t d
theorem before0_17 (c : Dev nD) (t : Fin cfg0.N) (d) : (dats m 0 c).before 17 t d = iblk m c 17 t :=
  before0_17_of m (dats m 0 c) (A_eq m c 17) (fun t => by dsimp only [dats]) t d
theorem before0_18 (c : Dev nD) (t : Fin cfg0.N) (d) : (dats m 0 c).before 18 t d = iblk m c 18 t :=
  before0_18_of m (dats m 0 c) (A_eq m c 18) (fun t => by dsimp only [dats]) t d

/-- What the body is called with at point `t`. -/
def bodyPre (R : Asked F) (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ Y, ⌜((dats m 0 c).toRRel written (Rl m R c)).Finds 19 t Y⌝ ∗ owns (c : Thread nD τ) (st0_19 t) fullShare Y)
    ∗ (∃ Y, ⌜((dats m 0 c).toRRel written (Rl m R c)).Finds 20 t Y⌝ ∗ owns (c : Thread nD τ) (st0_20 t) fullShare Y)
    ∗ (∃ Y, ⌜((dats m 0 c).toRRel written (Rl m R c)).Finds 21 t Y⌝ ∗ owns (c : Thread nD τ) (st0_21 t) fullShare Y)
    ∗ (∃ Y, ⌜((dats m 0 c).toRRel written (Rl m R c)).Finds 22 t Y⌝ ∗ owns (c : Thread nD τ) (st0_22 t) fullShare Y)
    ∗ (∃ Y, ⌜((dats m 0 c).toRRel written (Rl m R c)).Finds 23 t Y⌝ ∗ owns (c : Thread nD τ) (st0_23 t) fullShare Y))

/-- What it returns. -/
def bodyPost (R : Asked F) (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (∃ X, ⌜Rl m R c 19 t X⌝ ∗ owns (c : Thread nD τ) (st0_19 t) fullShare X)
    ∗ (∃ X, ⌜Rl m R c 20 t X⌝ ∗ owns (c : Thread nD τ) (st0_20 t) fullShare X)
    ∗ (∃ X, ⌜Rl m R c 21 t X⌝ ∗ owns (c : Thread nD τ) (st0_21 t) fullShare X)
    ∗ (∃ X, ⌜Rl m R c 22 t X⌝ ∗ owns (c : Thread nD τ) (st0_22 t) fullShare X)
    ∗ (∃ X, ⌜Rl m R c 23 t X⌝ ∗ owns (c : Thread nD τ) (st0_23 t) fullShare X))

/-- The grid has one point along the time axis, so the body's first branch is taken at every point. -/
theorem cond1 (t : Fin cfg0.N) : k0_cond1 (grid0.coords t) = 1#1 := by revert t; decide +kernel
/-- So is its last branch. -/
theorem cond2 (t : Fin cfg0.N) : k0_cond2 (grid0.coords t) = 1#1 := by revert t; decide +kernel

/-- The invariant between points, conjunct by conjunct: the scratch at anything and the generator register. -/
theorem PhiA_eq (c : Dev nD) :
    (Pipeline.ΦA (U := UR sig nD τ) (Val := Elt F) spec0 c : sProp 𝕄)
      = iprop(iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X)) ∗ (∃ r, prngReg c r)) := by
  unfold Pipeline.ΦA; rw [scopedRest0_eq]; simp only [owns_whole]; try rfl

set_option maxHeartbeats 4000000 in
/-- The body at any point, from its triple. -/
theorem sound_body (R : Asked F) (hR : BodyRuns R) (c : Dev nD) (t : Fin cfg0.N) :
    bodyPre m R c t ⊢ wp frame (wpE (defs₀ (F := F)) Variants.none c none) Set.univ (bodyAt0 t) (fun _ => bodyPost m R c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6, S7, S8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, -, H19⟩, ⟨%d20, -, H20⟩, ⟨%d21, -, H21⟩, ⟨%d22, -, H22⟩, ⟨%d23, -, H23⟩⟩
  iapply (hR c Set.univ (grid0.coords t) (cond1 t) (cond2 t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (insAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨%O, %hO, H0, H1, H2, H3, H4, H5, H6, H7, H8, H9, H10, H11, H12, H13, H14, H15, H16, H17, H18, H19, H20, H21, H22, H23, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; isplitr; swap; · iexact H19
    ipureintro; exact hO.1
  isplitl [H20]
  · iexists _; isplitr; swap; · iexact H20
    ipureintro; exact hO.2.1
  isplitl [H21]
  · iexists _; isplitr; swap; · iexact H21
    ipureintro; exact hO.2.2.1
  isplitl [H22]
  · iexists _; isplitr; swap; · iexact H22
    ipureintro; exact hO.2.2.2.1
  iexists _; isplitr; swap; · iexact H23
  ipureintro; exact hO.2.2.2.2

/-- The body table's row at the point is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation to the launch, the written windows held to what is asked of them. -/
theorem body_obligation (R : Asked F) (hR : BodyRuns R) (c : Dev nD) :
    BodyObligationRel (dats (F := F) m 0 c) (defs₀ (F := F)) Variants.none () Set.univ written (Rl m R c) := fun t => by
  rw [bigSep_W0, bigSep_W0, defs₀_row]
  exact triple_restated (sound_body m R hR c t) rfl .rfl fun _ => .rfl

-- the launch theorem's implicit arguments are found by unifying its conclusion with this one, which takes unfolding plain
-- definitions in a metavariable's type
set_option backward.isDefEq.respectTransparency.types false in
/-- Every weakly fair run of the mixer's program terminates with its windows' arrays as the data say, everything else at its launch
    contents, and every counter at zero. -/
theorem run_main (R : Asked F) (hR : BodyRuns R) :
    θ_run defs (onTc (τ := τ) (main (F := F))) (s₀ m ρ)
      (fun r => Pipeline.RDat.FramePost (cfgs 0) (fun c => (dats m 0 c).toRRel written (Rl m R c)) (V m) r ∧ r.2.sem = fun _ => 0) :=
  Pipeline.RDat.θ_run_frame_track_shared (Q' := _) cfgs (0 : Fin 1) launch₀0 defs₀ Variants.none (fun c => (dats m 0 c).toRRel written (Rl m R c)) m ρ main
    (hbody := fun c => (body_obligation m R hR c).toRRel) (hq := fun _ _ _ => rfl)
    (howed := fun _ _ => rfl) (V := V m) (hmain := hmain m Variants.none) (hA := A_eq m)
    (hin := fun _ => .rfl) (hout := fun _ => .rfl)

end Cert.KernelIdeal.Hand

end
-- ==== Proof.Mixer.Run.lean ====
module

public import proofs.«01_k».proof.Proof.Mixer.Body
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

/-- Nothing is asked of the written blocks. -/
def anything : Asked F := ⟨fun _ _ => True, fun _ _ => True, fun _ _ => True, fun _ _ => True, fun _ _ => True⟩

/-- What memref `M`'s buffer on core `c` may hold. -/
abbrev Bf (c : Dev nD) {sp : Space} {S : Shape} {e : EltTy} (M : Memref sig .tc sp S e) : Type := BufTy.Contents (Elt F) M.view.ty
/-- Memref `M`'s elements on core `c` held whole, at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- The mixer's body runs to its return from any contents: the read blocks unchanged, the written blocks at the contents
    found by the run, the scratch at some contents. -/
def ran (c : Dev nD) (i : grid0.Coords) (h1 : k0_cond1 i = 1#1) (h2 : k0_cond2 i = 1#1)
    (arg2 : Memref sig .tc .vmem S8x64x1024 .f32) (harg2 : arg2.IsWhole)
    (arg3 : Memref sig .tc .vmem S8x64x1024 .f32) (harg3 : arg3.IsWhole)
    (arg4 : Memref sig .tc .vmem S8x1x6144 .f32) (harg4 : arg4.IsWhole)
    (arg5 : Memref sig .tc .vmem S1x1024 .f32) (harg5 : arg5.IsWhole)
    (arg6 : Memref sig .tc .vmem S1x1024x3456 .bf16) (harg6 : arg6.IsWhole)
    (arg7 : Memref sig .tc .vmem S3x256 .f32) (harg7 : arg7.IsWhole)
    (arg8 : Memref sig .tc .vmem S31x256 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S4x1536 .f32) (harg12 : arg12.IsWhole)
    (arg13 : Memref sig .tc .vmem S1x128 .f32) (harg13 : arg13.IsWhole)
    (arg14 : Memref sig .tc .vmem S1x128 .f32) (harg14 : arg14.IsWhole)
    (arg15 : Memref sig .tc .vmem S1x128 .f32) (harg15 : arg15.IsWhole)
    (arg16 : Memref sig .tc .vmem S1x1024x1024 .bf16) (harg16 : arg16.IsWhole)
    (arg17 : Memref sig .tc .vmem S1x8x2x256 .f32) (harg17 : arg17.IsWhole)
    (arg18 : Memref sig .tc .vmem S1x8x30x256 .f32) (harg18 : arg18.IsWhole)
    (arg19 : Memref sig .tc .vmem S1x8x3x1536 .f32) (harg19 : arg19.IsWhole)
    (arg20 : Memref sig .tc .vmem S1x8x4x128x128 .f32) (harg20 : arg20.IsWhole)
    (arg21 : Memref sig .tc .vmem S8x64x1024 .f32) (harg21 : arg21.IsWhole)
    (arg22 : Memref sig .tc .vmem S8x2x256 .f32) (harg22 : arg22.IsWhole)
    (arg23 : Memref sig .tc .vmem S8x30x256 .f32) (harg23 : arg23.IsWhole)
    (arg24 : Memref sig .tc .vmem S8x3x1536 .f32) (harg24 : arg24.IsWhole)
    (arg25 : Memref sig .tc .vmem S8x4x128x128 .f32) (harg25 : arg25.IsWhole)
    (arg26 : Memref sig .tc .vmem S2x8x72x256 .f32) (harg26 : arg26.IsWhole)
    (arg27 : Memref sig .tc .vmem S2x8x64x256 .f32) (harg27 : arg27.IsWhole)
    (arg28 : Memref sig .tc .vmem S2x8x96x256 .f32) (harg28 : arg28.IsWhole)
    (arg29 : Memref sig .tc .vmem S2x8x72x1536 .f32) (harg29 : arg29.IsWhole)
    (arg30 : Memref sig .tc .vmem S2x8x64x512 .f32) (harg30 : arg30.IsWhole)
    (arg31 : Memref sig .tc .vmem S2x8x64x128 .f32) (harg31 : arg31.IsWhole)
    (arg32 : Memref sig .tc .vmem S8x2x64x1536 .f32) (harg32 : arg32.IsWhole)
    (arg33 : Memref sig .tc .vmem S8x2x64x512 .bf16) (harg33 : arg33.IsWhole)
    (arg34 : Memref sig .tc .vmem S8x2x64x128 .f32) (harg34 : arg34.IsWhole)
    (x2 : Bf (F := F) c arg2) (x3 : Bf (F := F) c arg3) (x4 : Bf (F := F) c arg4) (x5 : Bf (F := F) c arg5) (x6 : Bf (F := F) c arg6) (x7 : Bf (F := F) c arg7) (x8 : Bf (F := F) c arg8) (x9 : Bf (F := F) c arg9) (x10 : Bf (F := F) c arg10) (x11 : Bf (F := F) c arg11) (x12 : Bf (F := F) c arg12) (x13 : Bf (F := F) c arg13) (x14 : Bf (F := F) c arg14) (x15 : Bf (F := F) c arg15) (x16 : Bf (F := F) c arg16) (x17 : Bf (F := F) c arg17) (x18 : Bf (F := F) c arg18) (x19 : Bf (F := F) c arg19) (x20 : Bf (F := F) c arg20) (x21 : Bf (F := F) c arg21) (x22 : Bf (F := F) c arg22) (x23 : Bf (F := F) c arg23) (x24 : Bf (F := F) c arg24) (x25 : Bf (F := F) c arg25) (x26 : Bf (F := F) c arg26) (x27 : Bf (F := F) c arg27) (x28 : Bf (F := F) c arg28) (x29 : Bf (F := F) c arg29) (x30 : Bf (F := F) c arg30) (x31 : Bf (F := F) c arg31) (x32 : Bf (F := F) c arg32) (x33 : Bf (F := F) c arg33) (x34 : Bf (F := F) c arg34) :
    Σ' (g21 : Bf (F := F) c arg21), Σ' (g22 : Bf (F := F) c arg22), Σ' (g23 : Bf (F := F) c arg23), Σ' (g24 : Bf (F := F) c arg24), { g25 : Bf (F := F) c arg25 //
    ∀ (E : Set ℕ) (K : PUnit → sProp 𝕄),
    iprop(pt c arg2 x2
      ∗ pt c arg3 x3
      ∗ pt c arg4 x4
      ∗ pt c arg5 x5
      ∗ pt c arg6 x6
      ∗ pt c arg7 x7
      ∗ pt c arg8 x8
      ∗ pt c arg9 x9
      ∗ pt c arg10 x10
      ∗ pt c arg11 x11
      ∗ pt c arg12 x12
      ∗ pt c arg13 x13
      ∗ pt c arg14 x14
      ∗ pt c arg15 x15
      ∗ pt c arg16 x16
      ∗ pt c arg17 x17
      ∗ pt c arg18 x18
      ∗ pt c arg19 x19
      ∗ pt c arg20 x20
      ∗ pt c arg21 x21
      ∗ pt c arg22 x22
      ∗ pt c arg23 x23
      ∗ pt c arg24 x24
      ∗ pt c arg25 x25
      ∗ pt c arg26 x26
      ∗ pt c arg27 x27
      ∗ pt c arg28 x28
      ∗ pt c arg29 x29
      ∗ pt c arg30 x30
      ∗ pt c arg31 x31
      ∗ pt c arg32 x32
      ∗ pt c arg33 x33
      ∗ pt c arg34 x34
      ∗ (iprop(pt c arg2 x2
      ∗ pt c arg3 x3
      ∗ pt c arg4 x4
      ∗ pt c arg5 x5
      ∗ pt c arg6 x6
      ∗ pt c arg7 x7
      ∗ pt c arg8 x8
      ∗ pt c arg9 x9
      ∗ pt c arg10 x10
      ∗ pt c arg11 x11
      ∗ pt c arg12 x12
      ∗ pt c arg13 x13
      ∗ pt c arg14 x14
      ∗ pt c arg15 x15
      ∗ pt c arg16 x16
      ∗ pt c arg17 x17
      ∗ pt c arg18 x18
      ∗ pt c arg19 x19
      ∗ pt c arg20 x20
      ∗ pt c arg21 g21
      ∗ pt c arg22 g22
      ∗ pt c arg23 g23
      ∗ pt c arg24 g24
      ∗ pt c arg25 g25
      ∗ (∃ f, pt c arg26 f)
      ∗ (∃ f, pt c arg27 f)
      ∗ (∃ f, pt c arg28 f)
      ∗ (∃ f, pt c arg29 f)
      ∗ (∃ f, pt c arg30 f)
      ∗ (∃ f, pt c arg31 f)
      ∗ (∃ f, pt c arg32 f)
      ∗ (∃ f, pt c arg33 f)
      ∗ (∃ f, pt c arg34 f)) -∗ K ⟨⟩))
    ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, fun E K => ?run⟩
  case run =>
  simp only [cc0_mixer_eq_skeleton]; unfold cc0_mixer_skel
  iintro ⟨H2, H3, H4, H5, H6, H7, H8, H9, H10, H11, H12, H13, H14, H15, H16, H17, H18, H19, H20, H21, H22, H23, H24, H25, H26, H27, H28, H29, H30, H31, H32, H33, H34, Hk⟩
  sl_exec_parts (disch := first | exact h1 | exact h2)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iexists _; iexact H34

/-- The memrefs the body works on. -/
structure Mems where
  arg2 : Memref sig .tc .vmem S8x64x1024 .f32
  harg2 : arg2.IsWhole
  arg3 : Memref sig .tc .vmem S8x64x1024 .f32
  harg3 : arg3.IsWhole
  arg4 : Memref sig .tc .vmem S8x1x6144 .f32
  harg4 : arg4.IsWhole
  arg5 : Memref sig .tc .vmem S1x1024 .f32
  harg5 : arg5.IsWhole
  arg6 : Memref sig .tc .vmem S1x1024x3456 .bf16
  harg6 : arg6.IsWhole
  arg7 : Memref sig .tc .vmem S3x256 .f32
  harg7 : arg7.IsWhole
  arg8 : Memref sig .tc .vmem S31x256 .f32
  harg8 : arg8.IsWhole
  arg9 : Memref sig .tc .vmem S1x256 .f32
  harg9 : arg9.IsWhole
  arg10 : Memref sig .tc .vmem S1x256 .f32
  harg10 : arg10.IsWhole
  arg11 : Memref sig .tc .vmem S1x256 .f32
  harg11 : arg11.IsWhole
  arg12 : Memref sig .tc .vmem S4x1536 .f32
  harg12 : arg12.IsWhole
  arg13 : Memref sig .tc .vmem S1x128 .f32
  harg13 : arg13.IsWhole
  arg14 : Memref sig .tc .vmem S1x128 .f32
  harg14 : arg14.IsWhole
  arg15 : Memref sig .tc .vmem S1x128 .f32
  harg15 : arg15.IsWhole
  arg16 : Memref sig .tc .vmem S1x1024x1024 .bf16
  harg16 : arg16.IsWhole
  arg17 : Memref sig .tc .vmem S1x8x2x256 .f32
  harg17 : arg17.IsWhole
  arg18 : Memref sig .tc .vmem S1x8x30x256 .f32
  harg18 : arg18.IsWhole
  arg19 : Memref sig .tc .vmem S1x8x3x1536 .f32
  harg19 : arg19.IsWhole
  arg20 : Memref sig .tc .vmem S1x8x4x128x128 .f32
  harg20 : arg20.IsWhole
  arg21 : Memref sig .tc .vmem S8x64x1024 .f32
  harg21 : arg21.IsWhole
  arg22 : Memref sig .tc .vmem S8x2x256 .f32
  harg22 : arg22.IsWhole
  arg23 : Memref sig .tc .vmem S8x30x256 .f32
  harg23 : arg23.IsWhole
  arg24 : Memref sig .tc .vmem S8x3x1536 .f32
  harg24 : arg24.IsWhole
  arg25 : Memref sig .tc .vmem S8x4x128x128 .f32
  harg25 : arg25.IsWhole
  arg26 : Memref sig .tc .vmem S2x8x72x256 .f32
  harg26 : arg26.IsWhole
  arg27 : Memref sig .tc .vmem S2x8x64x256 .f32
  harg27 : arg27.IsWhole
  arg28 : Memref sig .tc .vmem S2x8x96x256 .f32
  harg28 : arg28.IsWhole
  arg29 : Memref sig .tc .vmem S2x8x72x1536 .f32
  harg29 : arg29.IsWhole
  arg30 : Memref sig .tc .vmem S2x8x64x512 .f32
  harg30 : arg30.IsWhole
  arg31 : Memref sig .tc .vmem S2x8x64x128 .f32
  harg31 : arg31.IsWhole
  arg32 : Memref sig .tc .vmem S8x2x64x1536 .f32
  harg32 : arg32.IsWhole
  arg33 : Memref sig .tc .vmem S8x2x64x512 .bf16
  harg33 : arg33.IsWhole
  arg34 : Memref sig .tc .vmem S8x2x64x128 .f32
  harg34 : arg34.IsWhole

/-- Contents of every buffer the body works on, when it starts. -/
structure Held (F : FTy → Type) (c : Dev nD) (M : Mems) where
  x2 : Bf (F := F) c M.arg2
  x3 : Bf (F := F) c M.arg3
  x4 : Bf (F := F) c M.arg4
  x5 : Bf (F := F) c M.arg5
  x6 : Bf (F := F) c M.arg6
  x7 : Bf (F := F) c M.arg7
  x8 : Bf (F := F) c M.arg8
  x9 : Bf (F := F) c M.arg9
  x10 : Bf (F := F) c M.arg10
  x11 : Bf (F := F) c M.arg11
  x12 : Bf (F := F) c M.arg12
  x13 : Bf (F := F) c M.arg13
  x14 : Bf (F := F) c M.arg14
  x15 : Bf (F := F) c M.arg15
  x16 : Bf (F := F) c M.arg16
  x17 : Bf (F := F) c M.arg17
  x18 : Bf (F := F) c M.arg18
  x19 : Bf (F := F) c M.arg19
  x20 : Bf (F := F) c M.arg20
  x21 : Bf (F := F) c M.arg21
  x22 : Bf (F := F) c M.arg22
  x23 : Bf (F := F) c M.arg23
  x24 : Bf (F := F) c M.arg24
  x25 : Bf (F := F) c M.arg25
  x26 : Bf (F := F) c M.arg26
  x27 : Bf (F := F) c M.arg27
  x28 : Bf (F := F) c M.arg28
  x29 : Bf (F := F) c M.arg29
  x30 : Bf (F := F) c M.arg30
  x31 : Bf (F := F) c M.arg31
  x32 : Bf (F := F) c M.arg32
  x33 : Bf (F := F) c M.arg33
  x34 : Bf (F := F) c M.arg34

/-- The body's run on the memrefs `M` from the contents `X`. -/
abbrev ranM (c : Dev nD) (i : grid0.Coords) (h1 : k0_cond1 i = 1#1) (h2 : k0_cond2 i = 1#1) (M : Mems) (X : Held F c M) :=
  ran (F := F) c i h1 h2 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 X.x31 X.x32 X.x33 X.x34

/-- The blocks the body reads. -/
abbrev Held.ins {c : Dev nD} {M : Mems} (X : Held F c M) : Ins F :=
  ⟨M.arg2.view.read _ X.x2, M.arg3.view.read _ X.x3, M.arg4.view.read _ X.x4, M.arg5.view.read _ X.x5, M.arg6.view.read _ X.x6, M.arg7.view.read _ X.x7, M.arg8.view.read _ X.x8, M.arg9.view.read _ X.x9, M.arg10.view.read _ X.x10, M.arg11.view.read _ X.x11, M.arg12.view.read _ X.x12, M.arg13.view.read _ X.x13, M.arg14.view.read _ X.x14, M.arg15.view.read _ X.x15, M.arg16.view.read _ X.x16, M.arg17.view.read _ X.x17, M.arg18.view.read _ X.x18, M.arg19.view.read _ X.x19, M.arg20.view.read _ X.x20⟩

/-- The blocks the body has written. -/
abbrev outsOf (c : Dev nD) (i : grid0.Coords) (h1 : k0_cond1 i = 1#1) (h2 : k0_cond2 i = 1#1) (M : Mems) (X : Held F c M) : Outs F :=
  ⟨M.arg21.view.read _ (ranM c i h1 h2 M X).1, M.arg22.view.read _ (ranM c i h1 h2 M X).2.1, M.arg23.view.read _ (ranM c i h1 h2 M X).2.2.1,
   M.arg24.view.read _ (ranM c i h1 h2 M X).2.2.2.1, M.arg25.view.read _ (ranM c i h1 h2 M X).2.2.2.2.1⟩

set_option maxHeartbeats 4000000 in
/-- The body runs to written blocks that meet `R`, if what its run finds meets `R`. -/
theorem run_of (R : Asked F)
    (hR : ∀ (c : Dev nD) (i : grid0.Coords) (h1 : k0_cond1 i = 1#1) (h2 : k0_cond2 i = 1#1) (M : Mems) (X : Held F c M), R.Met X.ins (outsOf c i h1 h2 M X)) :
    BodyRuns (F := F) R := by
  intro c E i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 I K
  unfold owns
  iintro ⟨⟨%x2, %e2, H2⟩, ⟨%x3, %e3, H3⟩, ⟨%x4, %e4, H4⟩, ⟨%x5, %e5, H5⟩, ⟨%x6, %e6, H6⟩, ⟨%x7, %e7, H7⟩, ⟨%x8, %e8, H8⟩, ⟨%x9, %e9, H9⟩, ⟨%x10, %e10, H10⟩, ⟨%x11, %e11, H11⟩, ⟨%x12, %e12, H12⟩, ⟨%x13, %e13, H13⟩, ⟨%x14, %e14, H14⟩, ⟨%x15, %e15, H15⟩, ⟨%x16, %e16, H16⟩, ⟨%x17, %e17, H17⟩, ⟨%x18, %e18, H18⟩, ⟨%x19, %e19, H19⟩, ⟨%x20, %e20, H20⟩, ⟨%X21, %x21, -, H21⟩, ⟨%X22, %x22, -, H22⟩, ⟨%X23, %x23, -, H23⟩, ⟨%X24, %x24, -, H24⟩, ⟨%X25, %x25, -, H25⟩, ⟨%X26, %x26, -, H26⟩, ⟨%X27, %x27, -, H27⟩, ⟨%X28, %x28, -, H28⟩, ⟨%X29, %x29, -, H29⟩, ⟨%X30, %x30, -, H30⟩, ⟨%X31, %x31, -, H31⟩, ⟨%X32, %x32, -, H32⟩, ⟨%X33, %x33, -, H33⟩, ⟨%X34, %x34, -, H34⟩, Hk⟩
  have hm := hR c i h1 h2 ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34⟩ ⟨x2, x3, x4, x5, x6, x7, x8, x9, x10, x11, x12, x13, x14, x15, x16, x17, x18, x19, x20, x21, x22, x23, x24, x25, x26, x27, x28, x29, x30, x31, x32, x33, x34⟩
  obtain ⟨i2, i3, i4, i5, i6, i7, i8, i9, i10, i11, i12, i13, i14, i15, i16, i17, i18, i19, i20⟩ := I
  subst e2 e3 e4 e5 e6 e7 e8 e9 e10 e11 e12 e13 e14 e15 e16 e17 e18 e19 e20
  iapply ((ran c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x2 x3 x4 x5 x6 x7 x8 x9 x10 x11 x12 x13 x14 x15 x16 x17 x18 x19 x20 x21 x22 x23 x24 x25 x26 x27 x28 x29 x30 x31 x32 x33 x34).2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H2, H3, H4, H5, H6, H7, H8, H9, H10, H11, H12, H13, H14, H15, H16, H17, H18, H19, H20, H21, H22, H23, H24, H25, ⟨%g26, H26⟩, ⟨%g27, H27⟩, ⟨%g28, H28⟩, ⟨%g29, H29⟩, ⟨%g30, H30⟩, ⟨%g31, H31⟩, ⟨%g32, H32⟩, ⟨%g33, H33⟩, ⟨%g34, H34⟩⟩
  iapply Hk
  iexists _
  isplitr; · ipureintro; exact hm
  isplitl [H2]
  · iexists x2; isplitr; swap; · iexact H2
    ipureintro; rfl
  isplitl [H3]
  · iexists x3; isplitr; swap; · iexact H3
    ipureintro; rfl
  isplitl [H4]
  · iexists x4; isplitr; swap; · iexact H4
    ipureintro; rfl
  isplitl [H5]
  · iexists x5; isplitr; swap; · iexact H5
    ipureintro; rfl
  isplitl [H6]
  · iexists x6; isplitr; swap; · iexact H6
    ipureintro; rfl
  isplitl [H7]
  · iexists x7; isplitr; swap; · iexact H7
    ipureintro; rfl
  isplitl [H8]
  · iexists x8; isplitr; swap; · iexact H8
    ipureintro; rfl
  isplitl [H9]
  · iexists x9; isplitr; swap; · iexact H9
    ipureintro; rfl
  isplitl [H10]
  · iexists x10; isplitr; swap; · iexact H10
    ipureintro; rfl
  isplitl [H11]
  · iexists x11; isplitr; swap; · iexact H11
    ipureintro; rfl
  isplitl [H12]
  · iexists x12; isplitr; swap; · iexact H12
    ipureintro; rfl
  isplitl [H13]
  · iexists x13; isplitr; swap; · iexact H13
    ipureintro; rfl
  isplitl [H14]
  · iexists x14; isplitr; swap; · iexact H14
    ipureintro; rfl
  isplitl [H15]
  · iexists x15; isplitr; swap; · iexact H15
    ipureintro; rfl
  isplitl [H16]
  · iexists x16; isplitr; swap; · iexact H16
    ipureintro; rfl
  isplitl [H17]
  · iexists x17; isplitr; swap; · iexact H17
    ipureintro; rfl
  isplitl [H18]
  · iexists x18; isplitr; swap; · iexact H18
    ipureintro; rfl
  isplitl [H19]
  · iexists x19; isplitr; swap; · iexact H19
    ipureintro; rfl
  isplitl [H20]
  · iexists x20; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  isplitl [H26]
  · iexists arg26.view.read _ g26, g26; isplitr; swap; · iexact H26
    ipureintro; rfl
  isplitl [H27]
  · iexists arg27.view.read _ g27, g27; isplitr; swap; · iexact H27
    ipureintro; rfl
  isplitl [H28]
  · iexists arg28.view.read _ g28, g28; isplitr; swap; · iexact H28
    ipureintro; rfl
  isplitl [H29]
  · iexists arg29.view.read _ g29, g29; isplitr; swap; · iexact H29
    ipureintro; rfl
  isplitl [H30]
  · iexists arg30.view.read _ g30, g30; isplitr; swap; · iexact H30
    ipureintro; rfl
  isplitl [H31]
  · iexists arg31.view.read _ g31, g31; isplitr; swap; · iexact H31
    ipureintro; rfl
  isplitl [H32]
  · iexists arg32.view.read _ g32, g32; isplitr; swap; · iexact H32
    ipureintro; rfl
  isplitl [H33]
  · iexists arg33.view.read _ g33, g33; isplitr; swap; · iexact H33
    ipureintro; rfl
  iexists arg34.view.read _ g34, g34; isplitr; swap; · iexact H34
  ipureintro; rfl

/-- The mixer's body runs to its return from any contents, at any value instance. -/
theorem kernelRun : BodyRuns (F := F) anything := run_of anything fun _ _ _ _ _ _ => ⟨trivial, trivial, trivial, trivial, trivial⟩

variable (m : (ℓ : Loc nD τ sig) → Buf (Elt F) ℓ) (ρ : Dev nD → PrngReg)

set_option maxHeartbeats 4000000 in
/-- After a run of the launch every argument array is as launched. -/
theorem args_kept (R : Asked F) {r : PUnit × MemSt nD τ sig (Elt F)}
    (h : Pipeline.RDat.FramePost (cfgs 0) (fun c => (dats m 0 c).toRRel written (Rl m R c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨(h.arr_in c 1 rfl).trans ((A_eq m c 1).trans (V_main_arg0 m c)),
   ((h c).2 main_arg1 (Pipeline.mem_restRefs_of main_arg1 (by decide) (by decide))).trans (V_main_arg1 m c),
   (h.arr_in c 15 rfl).trans ((A_eq m c 15).trans (V_main_arg2 m c)),
   (h.arr_in c 16 rfl).trans ((A_eq m c 16).trans (V_main_arg3 m c)),
   (h.arr_in c 17 rfl).trans ((A_eq m c 17).trans (V_main_arg4 m c)),
   (h.arr_in c 18 rfl).trans ((A_eq m c 18).trans (V_main_arg5 m c)),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c),
   ((h c).2 main_arg15 (Pipeline.mem_restRefs_of main_arg15 (by decide) (by decide))).trans (V_main_arg15 m c),
   ((h c).2 main_arg16 (Pipeline.mem_restRefs_of main_arg16 (by decide) (by decide))).trans (V_main_arg16 m c),
   ((h c).2 main_arg17 (Pipeline.mem_restRefs_of main_arg17 (by decide) (by decide))).trans (V_main_arg17 m c),
   ((h c).2 main_arg18 (Pipeline.mem_restRefs_of main_arg18 (by decide) (by decide))).trans (V_main_arg18 m c)⟩

/-- The mixer's program, from any memory with zero counters, at any value instance: every run terminates, leaves the arguments as
    launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨args_kept m anything h.1, h.2⟩) (run_main m ρ anything kernelRun)

end Cert.KernelIdeal.Hand

end
-- ==== Proof.Mixer.Frames.lean ====
module

public import proofs.«01_k».proof.Defs
public import proofs.«01_k».proof.Proof.Gen.Kernel
public import proofs.«01_k».proof.Proof.Mixer.Run

@[expose] public section

noncomputable section

namespace Cert.Same

open Idealize.ShloMosaic Idealize.SL.Sem

variable {F : FTy → Type} [FloatOps F]

set_option maxRecDepth 100000
set_option maxHeartbeats 4000000

/-- The mixer's table of bodies is one in the two programs. -/
theorem defs₀_same : Cert.Kernel.defs₀ (F := F) = Cert.KernelIdeal.defs₀ (F := F) := by
  unfold Cert.Kernel.defs₀ Cert.KernelIdeal.defs₀
  congr 1; funext p q
  match p, q with
  | 0, (t, s) => rfl
/-- So is the table with the launch's own labels. -/
theorem defs_same : Cert.Kernel.defs (F := F) = Cert.KernelIdeal.defs (F := F) := by
  unfold Cert.Kernel.defs Cert.KernelIdeal.defs
  rw [defs₀_same]; rfl
/-- So is the host program. -/
theorem main_same : Cert.Kernel.main (F := F) = Cert.KernelIdeal.main (F := F) := rfl

/-- The mixer on the machine's bits runs to its end, its arguments unchanged and every counter zero: its text is the idealized one's,
    whose run holds at any value instance. -/
theorem frame_mixer : Cert.quiescent_Kernel (hKernel := Cert.Kernel.Gen.facts) := fun m ρ _ => by
  have h := Cert.KernelIdeal.Hand.frame (F := Bits) m ρ
  rw [← defs_same, ← main_same] at h
  exact h

/-- The idealized mixer runs to its end, its arguments unchanged and every counter zero. -/
theorem frame_mixerIdeal : Cert.quiescent_KernelIdeal (hKernelIdeal := Cert.KernelIdeal.Gen.facts) :=
  fun m ρ _ => Cert.KernelIdeal.Hand.frame (F := Ideal) m ρ

end Cert.Same

end
-- ==== Proof.Mixer.Cols.lean ====
module

public import proofs.«01_k».proof.Proof.Mixer.Run
public import Idealize.ShloMosaic.Lib.Pointwise
public import Idealize.ShloMosaic.Lib.Pipeline.ValueKit
public import proofs.«01_k».proof.Proof.Common.Sigmoid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-- RMS norm of a row of 1024 numbers with gains `g`, scaled by one plus columns 1024… of the modulation `m` and shifted by its columns 0…. -/
noncomputable def hid (x g : Fin 1024 → EReal) (m : Fin 6144 → EReal) (k : Fin 1024) : EReal :=
  x k * Ideal.rsqrt (Ideal.div (∑ k, x k * x k) (Ideal.ofBits .f32 0x44800000#32) + Ideal.ofBits .f32 0x358637BD#32) * g k
    * (1 + m ⟨1024 + k.val, by omega⟩) + m ⟨k.val, by omega⟩

/-- Row `r` of stream `s` of the block of x, normed and modulated. -/
noncomputable abbrev row (I : Ins Ideal) (s : Fin 8) (r : Fin 64) : Fin 1024 → EReal :=
  hid (fun k => I.x2 (ix3 s r k)) (fun k => I.x5 (ix2 0 k)) (fun k => I.x4 (ix3 s 0 k))

/-- Column `n` of that row times W_in. -/
noncomputable def col (I : Ins Ideal) (s : Fin 8) (r : Fin 64) (n : Fin 3456) : EReal := ∑ k, row I s r k * I.x6 (ix3 0 k n)

variable (c : Dev nD) (M : Mems) (X : Held Ideal c M)

/-- Eight stacked matrices, read at a row. -/
theorem cat8 (p : Fin 8 → FVec Ideal S64x1024 .bf16) (h) (s : Fin 8) (r : Fin 64) (k : Fin 1024) :
    concatenate S512x1024 0 [⟨S64x1024, p 0⟩, ⟨S64x1024, p 1⟩, ⟨S64x1024, p 2⟩, ⟨S64x1024, p 3⟩, ⟨S64x1024, p 4⟩, ⟨S64x1024, p 5⟩, ⟨S64x1024, p 6⟩, ⟨S64x1024, p 7⟩] h
      (ix2 ⟨64 * s.val + r.val, by omega⟩ k) = p s (ix2 r k) := by
  refine concatenate_ofFn_apply (t := S512x1024) (s₁ := S64x1024) 0 p h rfl 64 rfl _ s ?_ _ ?_ ?_
  · show (64 * s.val + r.val) / 64 = s.val
    omega
  · show r.val = (64 * s.val + r.val) % 64
    omega
  · intro b hb
    match b with
    | 0 => exact absurd rfl hb
    | 1 => rfl

/-- The eight streams' normed and modulated rows. -/
noncomputable def mods : Fin 8 → FVec Ideal S64x1024 .bf16 :=
  ![ran.sl.r_5 c M.arg2 M.arg4 M.arg5 X.x2 X.x4 X.x5, ran.sl.r_9 c M.arg2 M.arg4 M.arg5 X.x2 X.x4 X.x5, ran.sl.r_10 c M.arg2 M.arg4 M.arg5 X.x2 X.x4 X.x5, ran.sl.r_14 c M.arg2 M.arg4 M.arg5 X.x2 X.x4 X.x5, ran.sl.r_15 c M.arg2 M.arg4 M.arg5 X.x2 X.x4 X.x5, ran.sl.r_18 c M.arg2 M.arg4 M.arg5 X.x2 X.x4 X.x5, ran.sl.r_19 c M.arg2 M.arg4 M.arg5 X.x2 X.x4 X.x5,
    k0_pay55 (ran.sl.r c M.arg5 X.x5)
      (View.readAt (Elt Ideal) M.arg2.view (Rect.unit (s := S8x64x1024) ![7, 0, 0] S1x64x1024.size inb_S8x64x1024_S1x64x1024_7_0_0).toLoadRect X.x2)
      (View.readAt (Elt Ideal) M.arg4.view (Rect.unit (s := S8x1x6144) ![7, 0, 0] S1x1x6144.size inb_S8x1x6144_S1x1x6144_7_0_0).toLoadRect X.x4)]

/-- Row `r` of stream `s`. -/
theorem mods_apply (s : Fin 8) (r : Fin 64) (k : Fin 1024) : mods c M X s (ix2 r k) = row X.ins s r k := by
  match s with
  | 0 | 1 | 2 | 3 | 4 | 5 | 6 | 7 =>
    dsimp only [mods]
    show (_ : FVec Ideal S64x1024 .bf16) (ix2 r k) = _
    sl_unfold_run_names
    unfold_payloads
    pointwise [View.readAt_apply, row, hid, Held.ins]

/-- The stacked block: row `r` of stream `s`. -/
theorem hb_apply (s : Fin 8) (r : Fin 64) (k : Fin 1024) :
    ran.sl.r_20 c M.arg2 M.arg4 M.arg5 X.x2 X.x4 X.x5 (ix2 ⟨64 * s.val + r.val, by omega⟩ k) = row X.ins s r k := by
  refine Eq.trans ?_ ((cat8 (mods c M X) concatenates_S64x1024_S64x1024_S64x1024_S64x1024_S64x1024_S64x1024_S64x1024_S64x1024_S512x1024_d0 s r k).trans (mods_apply c M X s r k))
  unfold ran.sl.r_20 k0_pay60
  rfl

/-! The stacked block by stream, at the row where a slice of stream 0, …, 7 reads it. -/

theorem hb_0 (r : Fin 64) (h) (k : Fin 1024) : ran.sl.r_20 c M.arg2 M.arg4 M.arg5 X.x2 X.x4 X.x5 (ix2 ⟨r.val, h⟩ k) = row X.ins 0 r k :=
  (congrArg (fun q => ran.sl.r_20 c M.arg2 M.arg4 M.arg5 X.x2 X.x4 X.x5 (ix2 q k)) (Fin.ext (Nat.zero_add _).symm)).trans (hb_apply c M X 0 r k)
theorem hb_1 (r : Fin 64) (h) (k : Fin 1024) : ran.sl.r_20 c M.arg2 M.arg4 M.arg5 X.x2 X.x4 X.x5 (ix2 ⟨64 + r.val, h⟩ k) = row X.ins 1 r k :=
  hb_apply c M X 1 r k
theorem hb_2 (r : Fin 64) (h) (k : Fin 1024) : ran.sl.r_20 c M.arg2 M.arg4 M.arg5 X.x2 X.x4 X.x5 (ix2 ⟨128 + r.val, h⟩ k) = row X.ins 2 r k :=
  hb_apply c M X 2 r k
theorem hb_3 (r : Fin 64) (h) (k : Fin 1024) : ran.sl.r_20 c M.arg2 M.arg4 M.arg5 X.x2 X.x4 X.x5 (ix2 ⟨192 + r.val, h⟩ k) = row X.ins 3 r k :=
  hb_apply c M X 3 r k
theorem hb_4 (r : Fin 64) (h) (k : Fin 1024) : ran.sl.r_20 c M.arg2 M.arg4 M.arg5 X.x2 X.x4 X.x5 (ix2 ⟨256 + r.val, h⟩ k) = row X.ins 4 r k :=
  hb_apply c M X 4 r k
theorem hb_5 (r : Fin 64) (h) (k : Fin 1024) : ran.sl.r_20 c M.arg2 M.arg4 M.arg5 X.x2 X.x4 X.x5 (ix2 ⟨320 + r.val, h⟩ k) = row X.ins 5 r k :=
  hb_apply c M X 5 r k
theorem hb_6 (r : Fin 64) (h) (k : Fin 1024) : ran.sl.r_20 c M.arg2 M.arg4 M.arg5 X.x2 X.x4 X.x5 (ix2 ⟨384 + r.val, h⟩ k) = row X.ins 6 r k :=
  hb_apply c M X 6 r k
theorem hb_7 (r : Fin 64) (h) (k : Fin 1024) : ran.sl.r_20 c M.arg2 M.arg4 M.arg5 X.x2 X.x4 X.x5 (ix2 ⟨448 + r.val, h⟩ k) = row X.ins 7 r k :=
  hb_apply c M X 7 r k

/-- The gate times the input of the short convolution. -/
abbrev pa (I : Ins Ideal) (s : Fin 8) (r : Fin 64) (ch : Fin 256) : EReal :=
  col I s r ⟨512 + ch.val, by omega⟩ * col I s r ⟨ch.val, by omega⟩

/-- The gated linear unit that the long convolution reads. -/
abbrev pb (I : Ins Ideal) (s : Fin 8) (r : Fin 64) (ch : Fin 256) : EReal :=
  col I s r ⟨768 + ch.val, by omega⟩ * Ideal.div 1 (1 + Ideal.exp (-col I s r ⟨1024 + ch.val, by omega⟩))

/-- What the short convolution reads, by stream. -/
theorem pa_apply (s : Fin 8) (r : Fin 64) (ch : Fin 256) :
    ran.sl.r_21 c M.arg2 M.arg4 M.arg5 M.arg6 X.x2 X.x4 X.x5 X.x6 (ix2 ⟨64 * s.val + r.val, by omega⟩ ch) = pa X.ins s r ch := by
  show k0_pay61 _ _ _ _ _ _ _ _ _ _ _ _ _ = _
  unfold k0_pay61
  change mulf (matmul _ _ (ran.sl.r_20 c M.arg2 M.arg4 M.arg5 X.x2 X.x4 X.x5) _ _) (matmul _ _ (ran.sl.r_20 c M.arg2 M.arg4 M.arg5 X.x2 X.x4 X.x5) _ _) _ = _
  pointwise [View.readAt_apply, pa, col, Held.ins]
  simp only [hb_apply]

/-- What the long convolution reads, by stream. -/
theorem pb_apply (s : Fin 8) (r : Fin 64) (ch : Fin 256) :
    ran.sl.r_24 c M.arg2 M.arg4 M.arg5 M.arg6 X.x2 X.x4 X.x5 X.x6 (ix2 ⟨64 * s.val + r.val, by omega⟩ ch) = pb X.ins s r ch := by
  unfold ran.sl.r_24 k0_pay81
  pointwise [View.readAt_apply, pb, col, Held.ins]
  simp only [hb_apply, Cert.Common.sigmoid_word, ← Nat.add_assoc, Nat.reduceAdd]

/-! Both at the row where a slice of stream 0, …, 7 reads them. -/

theorem pa_0 (r : Fin 64) (h) (ch : Fin 256) : ran.sl.r_21 c M.arg2 M.arg4 M.arg5 M.arg6 X.x2 X.x4 X.x5 X.x6 (ix2 ⟨r.val, h⟩ ch) = pa X.ins 0 r ch :=
  (congrArg (fun q => ran.sl.r_21 c M.arg2 M.arg4 M.arg5 M.arg6 X.x2 X.x4 X.x5 X.x6 (ix2 q ch)) (Fin.ext (Nat.zero_add _).symm)).trans (pa_apply c M X 0 r ch)
theorem pa_1 (r : Fin 64) (h) (ch : Fin 256) : ran.sl.r_21 c M.arg2 M.arg4 M.arg5 M.arg6 X.x2 X.x4 X.x5 X.x6 (ix2 ⟨64 + r.val, h⟩ ch) = pa X.ins 1 r ch :=
  pa_apply c M X 1 r ch
theorem pa_2 (r : Fin 64) (h) (ch : Fin 256) : ran.sl.r_21 c M.arg2 M.arg4 M.arg5 M.arg6 X.x2 X.x4 X.x5 X.x6 (ix2 ⟨128 + r.val, h⟩ ch) = pa X.ins 2 r ch :=
  pa_apply c M X 2 r ch
theorem pa_3 (r : Fin 64) (h) (ch : Fin 256) : ran.sl.r_21 c M.arg2 M.arg4 M.arg5 M.arg6 X.x2 X.x4 X.x5 X.x6 (ix2 ⟨192 + r.val, h⟩ ch) = pa X.ins 3 r ch :=
  pa_apply c M X 3 r ch
theorem pa_4 (r : Fin 64) (h) (ch : Fin 256) : ran.sl.r_21 c M.arg2 M.arg4 M.arg5 M.arg6 X.x2 X.x4 X.x5 X.x6 (ix2 ⟨256 + r.val, h⟩ ch) = pa X.ins 4 r ch :=
  pa_apply c M X 4 r ch
theorem pa_5 (r : Fin 64) (h) (ch : Fin 256) : ran.sl.r_21 c M.arg2 M.arg4 M.arg5 M.arg6 X.x2 X.x4 X.x5 X.x6 (ix2 ⟨320 + r.val, h⟩ ch) = pa X.ins 5 r ch :=
  pa_apply c M X 5 r ch
theorem pa_6 (r : Fin 64) (h) (ch : Fin 256) : ran.sl.r_21 c M.arg2 M.arg4 M.arg5 M.arg6 X.x2 X.x4 X.x5 X.x6 (ix2 ⟨384 + r.val, h⟩ ch) = pa X.ins 6 r ch :=
  pa_apply c M X 6 r ch
theorem pa_7 (r : Fin 64) (h) (ch : Fin 256) : ran.sl.r_21 c M.arg2 M.arg4 M.arg5 M.arg6 X.x2 X.x4 X.x5 X.x6 (ix2 ⟨448 + r.val, h⟩ ch) = pa X.ins 7 r ch :=
  pa_apply c M X 7 r ch
theorem pb_0 (r : Fin 64) (h) (ch : Fin 256) : ran.sl.r_24 c M.arg2 M.arg4 M.arg5 M.arg6 X.x2 X.x4 X.x5 X.x6 (ix2 ⟨r.val, h⟩ ch) = pb X.ins 0 r ch :=
  (congrArg (fun q => ran.sl.r_24 c M.arg2 M.arg4 M.arg5 M.arg6 X.x2 X.x4 X.x5 X.x6 (ix2 q ch)) (Fin.ext (Nat.zero_add _).symm)).trans (pb_apply c M X 0 r ch)
theorem pb_1 (r : Fin 64) (h) (ch : Fin 256) : ran.sl.r_24 c M.arg2 M.arg4 M.arg5 M.arg6 X.x2 X.x4 X.x5 X.x6 (ix2 ⟨64 + r.val, h⟩ ch) = pb X.ins 1 r ch :=
  pb_apply c M X 1 r ch
theorem pb_2 (r : Fin 64) (h) (ch : Fin 256) : ran.sl.r_24 c M.arg2 M.arg4 M.arg5 M.arg6 X.x2 X.x4 X.x5 X.x6 (ix2 ⟨128 + r.val, h⟩ ch) = pb X.ins 2 r ch :=
  pb_apply c M X 2 r ch
theorem pb_3 (r : Fin 64) (h) (ch : Fin 256) : ran.sl.r_24 c M.arg2 M.arg4 M.arg5 M.arg6 X.x2 X.x4 X.x5 X.x6 (ix2 ⟨192 + r.val, h⟩ ch) = pb X.ins 3 r ch :=
  pb_apply c M X 3 r ch
theorem pb_4 (r : Fin 64) (h) (ch : Fin 256) : ran.sl.r_24 c M.arg2 M.arg4 M.arg5 M.arg6 X.x2 X.x4 X.x5 X.x6 (ix2 ⟨256 + r.val, h⟩ ch) = pb X.ins 4 r ch :=
  pb_apply c M X 4 r ch
theorem pb_5 (r : Fin 64) (h) (ch : Fin 256) : ran.sl.r_24 c M.arg2 M.arg4 M.arg5 M.arg6 X.x2 X.x4 X.x5 X.x6 (ix2 ⟨320 + r.val, h⟩ ch) = pb X.ins 5 r ch :=
  pb_apply c M X 5 r ch
theorem pb_6 (r : Fin 64) (h) (ch : Fin 256) : ran.sl.r_24 c M.arg2 M.arg4 M.arg5 M.arg6 X.x2 X.x4 X.x5 X.x6 (ix2 ⟨384 + r.val, h⟩ ch) = pb X.ins 6 r ch :=
  pb_apply c M X 6 r ch
theorem pb_7 (r : Fin 64) (h) (ch : Fin 256) : ran.sl.r_24 c M.arg2 M.arg4 M.arg5 M.arg6 X.x2 X.x4 X.x5 X.x6 (ix2 ⟨448 + r.val, h⟩ ch) = pb X.ins 7 r ch :=
  pb_apply c M X 7 r ch

/-- Row `r` of stream 0, before the streams are stacked. -/
theorem m_0 (r : Fin 64) (k : Fin 1024) : ran.sl.r_5 c M.arg2 M.arg4 M.arg5 X.x2 X.x4 X.x5 (ix2 r k) = row X.ins 0 r k :=
  mods_apply c M X 0 r k

/-- Where a unit-stride rectangle's entry lies. -/
theorem emb_val {S : Shape} (off size : Fin S.rank → ℕ) (inb) (x : (Rect.unit (s := S) off size inb).shape.Idx) (a : Fin S.rank) :
    ((Rect.unit off size inb).emb x a).val = off a + (x a).val := by
  show off a + 1 * (x a).val = _
  rw [Nat.one_mul]

end Cert.KernelIdeal.Hand

end
-- ==== Proof.Mixer.Ref.lean ====
/- What the mixer's reference computes, element by element. -/
module
public import proofs.«01_k».proof.Proof.Gen.MixerRefIdeal.Read
public import proofs.«01_k».proof.Proof.Mixer.Cols
@[expose] public section
set_option maxRecDepth 16384
namespace Cert.MixerRefIdeal.Hand
open Cert.MixerRefIdeal Cert.MixerRefIdeal.Gen Cert.MixerRefIdeal.Read Idealize.ShloMosaic
open Cert.KernelIdeal.Hand (hid)

variable (x0 : (⟨S32x64x1024, .f32⟩ : BufTy).Contents (Elt Ideal)) (x1 : (⟨S32x6144, .f32⟩ : BufTy).Contents (Elt Ideal)) (x6 : (⟨S2x1024, .f32⟩ : BufTy).Contents (Elt Ideal)) (x7 : (⟨S2x1024x3336, .f32⟩ : BufTy).Contents (Elt Ideal))
  (x2 : (⟨S2x32x2x256, .f32⟩ : BufTy).Contents (Elt Ideal)) (x3 : (⟨S2x32x30x256, .f32⟩ : BufTy).Contents (Elt Ideal)) (x4 : (⟨S2x32x3x1536, .f32⟩ : BufTy).Contents (Elt Ideal))

/-- Column `n` of a row of the first layer's projections. -/
noncomputable def proj (b : Fin 32) (t : Fin 64) (n : Fin 3336) : EReal :=
  ∑ k, hid (fun k => x0 (ix3 b t k)) (fun k => x6 (ix2 0 k)) (fun k => x1 (ix2 b k)) k * x7 (ix3 0 k n)

/-- The normed and modulated rows. -/
theorem v27_apply (b : Fin 32) (t : Fin 64) (k : Fin 1024) :
    val_main_v27 (F := Ideal) x0 x1 x6 (ix3 b t k) = hid (fun k => x0 (ix3 b t k)) (fun k => x6 (ix2 0 k)) (fun k => x1 (ix2 b k)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hid]

/-- The projections. -/
theorem v30_apply (b : Fin 32) (t : Fin 64) (n : Fin 3336) : val_main_v30 (F := Ideal) x0 x1 x6 x7 (ix3 b t n) = proj x0 x1 x6 x7 b t n := by
  unfold val_main_v30
  pointwise [val_main_v29, val_main_v28]
  simp only [v27_apply, proj]

/-- The first layer's state of the short convolution: the last two gated inputs. -/
theorem v55_apply (b : Fin 32) (j : Fin 2) (ch : Fin 256) :
    val_main_v55 (F := Ideal) x0 x1 x2 x6 x7 (ix3 b j ch)
      = proj x0 x1 x6 x7 b ⟨62 + j.val, by omega⟩ ⟨512 + ch.val, by omega⟩ * proj x0 x1 x6 x7 b ⟨62 + j.val, by omega⟩ ⟨ch.val, by omega⟩ := by
  pointwise [val_main_v55]
  unfold val_main_v54
  refine (concatenate_apply_piece (t := S32x66x256) 1 _ _ _ 1 ?_ S32x64x256 (val_main_v49 x0 x1 x6 x7) ?_ rfl 2 ?_ (ix3 b ⟨62 + j.val, by omega⟩ ch) ?_ ?_).trans ?_
  · exact Nat.one_lt_two
  · rfl
  · rfl
  · intro a ha
    match a with
    | 0 => rfl
    | 1 => exact absurd rfl ha
    | 2 => rfl
  · show 2 + (62 + j.val) = 64 + j.val
    omega
  · pointwise [val_main_v49, val_main_v33, val_main_v31]
    simp only [v30_apply]

/-- The first layer's state of the long convolution: the last thirty gated linear units. -/
theorem v61_apply (b : Fin 32) (j : Fin 30) (ch : Fin 256) :
    val_main_v61 (F := Ideal) x0 x1 x3 x6 x7 (ix3 b j ch)
      = proj x0 x1 x6 x7 b ⟨34 + j.val, by omega⟩ ⟨768 + ch.val, by omega⟩
        * Ideal.div 1 (1 + Ideal.exp (-proj x0 x1 x6 x7 b ⟨34 + j.val, by omega⟩ ⟨1024 + ch.val, by omega⟩)) := by
  pointwise [val_main_v61]
  unfold val_main_v60
  refine (concatenate_apply_piece (t := S32x94x256) 1 _ _ _ 1 ?_ S32x64x256 (val_main_v48 x0 x1 x6 x7) ?_ rfl 30 ?_ (ix3 b ⟨34 + j.val, by omega⟩ ch) ?_ ?_).trans ?_
  · exact Nat.one_lt_two
  · rfl
  · rfl
  · intro a ha
    match a with
    | 0 => rfl
    | 1 => exact absurd rfl ha
    | 2 => rfl
  · show 30 + (34 + j.val) = 64 + j.val
    omega
  · pointwise [val_main_v48, val_main_v47, val_main_v46, val_main_v45, val_main_v44, val_main_v43, val_main_v42, val_main_v34, val_main_v35, val_main_cst_3, val_main_cst_4]
    simp only [v30_apply]

/-- The q, k and v projections side by side. -/
theorem v62_apply (b : Fin 32) (t : Fin 64) (ch : Fin 1536) :
    val_main_v62 (F := Ideal) x0 x1 x6 x7 (ix3 b t ch) = proj x0 x1 x6 x7 b t ⟨1280 + ch.val, by omega⟩ := by
  obtain ⟨p, e, he⟩ : ∃ (p : Fin 3) (e : Fin 512), ch = ⟨512 * p.val + e.val, by omega⟩ :=
    ⟨⟨ch.val / 512, by omega⟩, ⟨ch.val % 512, Nat.mod_lt _ (by decide)⟩, Fin.ext (Nat.div_add_mod _ _).symm⟩
  subst he
  unfold val_main_v62
  refine (concatenate_ofFn_apply (t := S32x64x1536) (s₁ := S32x64x512) 2 ![val_main_v36 x0 x1 x6 x7, val_main_v37 x0 x1 x6 x7, val_main_v38 x0 x1 x6 x7]
    concatenates_S32x64x512_S32x64x512_S32x64x512_S32x64x1536_d2 rfl 512 rfl _ p ?_ (ix3 b t e) ?_ ?_).trans ?_
  · show (512 * p.val + e.val) / 512 = p.val
    omega
  · show e.val = (512 * p.val + e.val) % 512
    omega
  · intro a ha
    match a with
    | 0 => rfl
    | 1 => rfl
    | 2 => exact absurd rfl ha
  · match p with
    | 0 =>
      show val_main_v36 x0 x1 x6 x7 _ = _
      pointwise [val_main_v36]
      simp only [v30_apply]
    | 1 =>
      show val_main_v37 x0 x1 x6 x7 _ = _
      pointwise [val_main_v37]
      simp only [v30_apply]
      exact congrArg (proj x0 x1 x6 x7 b t) (Fin.ext (by simp; omega))
    | 2 =>
      show val_main_v38 x0 x1 x6 x7 _ = _
      pointwise [val_main_v38]
      simp only [v30_apply]
      exact congrArg (proj x0 x1 x6 x7 b t) (Fin.ext (by simp; omega))

/-- The first layer's state of the q, k and v convolution: the last three projected rows. -/
theorem v68_apply (b : Fin 32) (j : Fin 3) (ch : Fin 1536) :
    val_main_v68 (F := Ideal) x0 x1 x4 x6 x7 (ix3 b j ch) = proj x0 x1 x6 x7 b ⟨61 + j.val, by omega⟩ ⟨1280 + ch.val, by omega⟩ := by
  pointwise [val_main_v68]
  unfold val_main_v67
  refine (concatenate_apply_piece (t := S32x67x1536) 1 _ _ _ 1 ?_ S32x64x1536 (val_main_v62 x0 x1 x6 x7) ?_ rfl 3 ?_ (ix3 b ⟨61 + j.val, by omega⟩ ch) ?_ ?_).trans ?_
  · exact Nat.one_lt_two
  · rfl
  · rfl
  · intro a ha
    match a with
    | 0 => rfl
    | 1 => exact absurd rfl ha
    | 2 => rfl
  · show 3 + (61 + j.val) = 64 + j.val
    omega
  · exact v62_apply x0 x1 x6 x7 b _ ch

end Cert.MixerRefIdeal.Hand
-- ==== Proof.Mixer.Args.lean ====
/- What the body reads: the blocks of x, of the modulation, of the norm and of W_in, as the launch stages them. -/
module
public import proofs.«01_k».proof.Proof.Mixer.Ref
public import Idealize.ShloMosaic.Lib.KernelVsHost
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The padded projection matrices the region finds. -/
theorem V_v1 (c : Dev nD) : V m c main_v1
    = truncf .bf16 (pad S2x1024x3456 ![0, 0, 0] ![0, 0, 120] ![0, 0, 0] (m ((c : Thread nD τ).loc main_arg7)) (sitofp .f32 (constantI S_ 32 0#32)) pads_S2x1024x3336_S2x1024x3456_000_000_01200 h_S_ : FVec Ideal S2x1024x3456 .f32) bitsLt_bf16_f32 := by
  simp only [V, hostOps0, hostOps0_1, hostOps0_2, hostOps0_3, hostOps0_4, hostOps0_5, hostOps0_6, List.flatten_cons, List.flatten_nil, List.append_nil, List.cons_append, List.nil_append]
  after_results
  rfl
/-- The first layer's gains of the norm. -/
theorem V_v5 (c : Dev nD) : V m c main_v5
    = shapeCast S1x1024 (shapeCast S1024 (extractStridedSlice S1x1024 ![0, 0] (m ((c : Thread nD τ).loc main_arg6)) slices_S2x1024_S1x1024_0_0) shapeCasts_S1x1024_S1024) shapeCasts_S1024_S1x1024 := by
  simp only [V, hostOps0, hostOps0_1, hostOps0_2, hostOps0_3, hostOps0_4, hostOps0_5, hostOps0_6, List.flatten_cons, List.flatten_nil, List.append_nil, List.cons_append, List.nil_append]
  after_results
  rfl
/-- The modulation with a unit axis. -/
theorem V_v35 (c : Dev nD) : V m c main_v35 = broadcastInDim S32x1x6144 ![0, 2] bcast_S32x6144_S32x1x6144_0_2 (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append]
  after_results
/-- Which block the windows stage at a grid point. -/
theorem idx_facts : ∀ t : Fin cfg0.N,
    win0_20.index t = ![t.val, 0, 0] ∧ win0_21.index t = ![t.val, 0, 0] ∧ win0_22.index t = ![t.val, 0, 0]
      ∧ win0_0.index t = ![t.val, 0, 0] ∧ win0_2.index t = ![t.val, 0, 0] ∧ win0_3.index t = ![0, 0] ∧ win0_4.index t = ![0, 0, 0] :=
  (by decide +kernel : ∀ t : Fin grid0.N, _)

/-- The rows of x. -/
theorem x_apply (c : Dev nD) (t : Fin cfg0.N) (s : Fin 8) (r : Fin 64) (k : Fin 1024) :
    (insAt m c t).x2 (ix3 s r k) = m ((c : Thread nD τ).loc main_arg0) (ix3 ⟨8 * t.val + s.val, by have : t.val < 4 := t.isLt; omega⟩ r k) := by
  obtain ⟨h20, h21, h22, h0, h2, h3, h4⟩ := idx_facts t
  dsimp only [insAt]
  blk_ext [iblk, V, h0]
/-- The rows of the modulation. -/
theorem mod_apply (c : Dev nD) (t : Fin cfg0.N) (s : Fin 8) (k : Fin 6144) :
    (insAt m c t).x4 (ix3 s 0 k) = m ((c : Thread nD τ).loc main_arg1) (ix2 ⟨8 * t.val + s.val, by have : t.val < 4 := t.isLt; omega⟩ k) := by
  obtain ⟨h20, h21, h22, h0, h2, h3, h4⟩ := idx_facts t
  have e : ∀ g : Shape.Idx S32x1x6144 → EReal, g ((win0_2.blk t).view.emb (ix3 s 0 k)) = g (ix3 ⟨8 * t.val + s.val, by have : t.val < 4 := t.isLt; omega⟩ 0 k) := fun g => by
    blk_ext [h2]
  refine Eq.trans (congrFun (V_v35 m c) _) ?_
  refine Eq.trans (e _) ?_
  pointwise
/-- The gains of the norm. -/
theorem gain_apply (c : Dev nD) (t : Fin cfg0.N) (k : Fin 1024) :
    (insAt m c t).x5 (ix2 0 k) = m ((c : Thread nD τ).loc main_arg6) (ix2 0 k) := by
  obtain ⟨h20, h21, h22, h0, h2, h3, h4⟩ := idx_facts t
  have e : ∀ g : Shape.Idx S1x1024 → EReal, g ((win0_3.blk t).view.emb (ix2 0 k)) = g (ix2 0 k) := fun g => by
    blk_ext [h3]
  refine Eq.trans (congrFun (V_v5 m c) _) ?_
  refine Eq.trans (e _) ?_
  pointwise
/-- The first layer's W_in. -/
theorem w_apply (c : Dev nD) (t : Fin cfg0.N) (k : Fin 1024) (n : Fin 3336) :
    (insAt m c t).x6 (ix3 0 k ⟨n.val, by omega⟩) = m ((c : Thread nD τ).loc main_arg7) (ix3 0 k n) := by
  obtain ⟨h20, h21, h22, h0, h2, h3, h4⟩ := idx_facts t
  have e : ∀ g : Shape.Idx S2x1024x3456 → EReal, g ((win0_4.blk t).view.emb (ix3 0 k ⟨n.val, by omega⟩)) = g (ix3 0 k ⟨n.val, by omega⟩) := fun g => by
    blk_ext [h4]
  refine Eq.trans (congrFun (V_v1 m c) _) ?_
  refine Eq.trans (e _) ?_
  refine pad_apply_of_inside ![0, 0, 0] ![0, 0, 120] ![0, 0, 0] (m ((c : Thread nD τ).loc main_arg7)) (sitofp (F := Ideal) .f32 (constantI S_ 32 0#32)) pads_S2x1024x3336_S2x1024x3456_000_000_01200 h_S_ (ix3 0 k ⟨n.val, by omega⟩) (ix3 0 k n) ?_
  intro a
  fin_cases a <;> simp [ix3]

/-- A column of the block's projections is the reference's, at the block's stream. -/
theorem col_eq (c : Dev nD) (t : Fin cfg0.N) (s : Fin 8) (r : Fin 64) (n : Fin 3336) :
    col (insAt m c t) s r ⟨n.val, by omega⟩
      = Cert.MixerRefIdeal.Hand.proj (m ((c : Thread nD τ).loc main_arg0)) (m ((c : Thread nD τ).loc main_arg1)) (m ((c : Thread nD τ).loc main_arg6)) (m ((c : Thread nD τ).loc main_arg7))
          ⟨8 * t.val + s.val, by have : t.val < 4 := t.isLt; omega⟩ r n := by
  unfold col Cert.MixerRefIdeal.Hand.proj
  simp only [row, x_apply, mod_apply, gain_apply, w_apply]

end Cert.KernelIdeal.Hand
end
-- ==== Proof.Mixer.BufAB.lean ====
module

public import proofs.«01_k».proof.Proof.Mixer.Cols
public import Idealize.ShloMosaic.Lib.Pointwise
public import Idealize.ShloMosaic.Lib.Pipeline.ValueKit
public import proofs.«01_k».proof.Proof.Common.Sigmoid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (c : Dev nD) (M : Mems) (X : Held Ideal c M)

/-- The short convolution's rows of one stream: two rows of the state, then the chunk. -/
def bufA (I : Ins Ideal) (s : Fin 8) (q : Fin 72) (ch : Fin 256) : EReal :=
  if h : 8 ≤ q.val then pa I s ⟨q.val - 8, by omega⟩ ch else I.x17 (ix4 0 s ⟨(q.val - 6) % 2, Nat.mod_lt _ (by decide)⟩ ch)

/-- Its rows of the chunk. -/
theorem bufA_chunk (I : Ins Ideal) (s s' : Fin 8) (q : Fin 72) (r : Fin 64) (ch ch' : Fin 256) (hs : s'.val = s.val) (hq : q.val = 8 + r.val) (hc : ch'.val = ch.val) :
    pa I s r ch = bufA I s' q ch' := by
  obtain rfl := Fin.ext hs
  obtain rfl := Fin.ext hc
  unfold bufA
  rw [dif_pos (show 8 ≤ q.val by omega)]
  rw [show (⟨q.val - 8, by omega⟩ : Fin 64) = r from Fin.ext (by show q.val - 8 = r.val; omega)]

/-- Its rows of the state. -/
theorem bufA_state (I : Ins Ideal) (s s' : Fin 8) (q : Fin 72) (r : Fin 2) (ch ch' : Fin 256) (hs : s'.val = s.val) (hq : q.val = 6 + r.val) (hc : ch'.val = ch.val) :
    I.x17 (ix4 0 s r ch) = bufA I s' q ch' := by
  obtain rfl := Fin.ext hs
  obtain rfl := Fin.ext hc
  unfold bufA
  rw [dif_neg (show ¬ 8 ≤ q.val by omega)]
  rw [show (⟨(q.val - 6) % 2, Nat.mod_lt _ (by decide)⟩ : Fin 2) = r from Fin.ext (by show (q.val - 6) % 2 = r.val; omega)]

set_option maxHeartbeats 4000000 in
/-- The run's buffer holds it. -/
theorem bufA_read (s : Fin 8) (q : Fin 72) (hq : 6 ≤ q.val) (ch : Fin 256) :
    M.arg26.view.read (Elt Ideal) (M.arg26.view.writes (Elt Ideal) X.x26 (ran.sl.H26_9 c M.arg2 M.arg4 M.arg5 M.arg6 M.arg17 X.x2 X.x4 X.x5 X.x6 X.x17)) (ix4 0 s q ch)
      = bufA X.ins s q ch := by
  refine (View.read_writes_apply_of_pieces M.arg26.view X.x26 (fun y : Shape.Idx S2x8x72x256 => bufA X.ins (y 1) (y 2) (y 3)) _ ?_ (ix4 0 s q ch) ?_).trans rfl
  · dsimp only [ran.sl.H26_9, ran.sl.H26_8, ran.sl.H26_2, ran.sl.H26_1, ran.sl.v210, ran.sl.v207, ran.sl.v439, ran.sl.v436, ran.sl.v443, ran.sl.v440, ran.sl.v447, ran.sl.v444, ran.sl.v451, ran.sl.v448, ran.sl.v455, ran.sl.v452, ran.sl.v459, ran.sl.v456, ran.sl.v460]
    simp only [List.forall_mem_cons]
    refine ⟨?_, ?_, ?_, ?_, ?_, ?_, ?_, ?_, ?_, List.forall_mem_nil _⟩
    all_goals
      intro y
      idx_vars y
      unfold_payloads
      pointwise [View.readAt_apply]
      try simp only [pa_0, pa_1, pa_2, pa_3, pa_4, pa_5, pa_6, pa_7, m_0]
      first
      | refine bufA_state X.ins y1 _ _ y2 y3 _ ?_ ?_ ?_ <;> (rw [emb_val]; simp [ix4] <;> omega)
      | refine bufA_chunk X.ins _ _ _ _ _ _ ?_ ?_ ?_ <;> (rw [emb_val]; simp [ix4] <;> omega)
      | refine bufA_chunk X.ins 0 _ _ y2 y3 _ ?_ ?_ ?_ <;> (rw [emb_val]; simp [ix4] <;> omega)
  · by_cases h : 8 ≤ q.val
    · obtain ⟨p, hp, hy⟩ : ∃ p, (ran.sl.H26_9 c M.arg2 M.arg4 M.arg5 M.arg6 M.arg17 X.x2 X.x4 X.x5 X.x6 X.x17)[7 - s.val]? = some p ∧ (ix4 0 s q ch : Shape.Idx S2x8x72x256) ∈ p.1.set := by
        match s with
        | 0 | 1 | 2 | 3 | 4 | 5 | 6 | 7 =>
          refine ⟨_, rfl, ?_⟩
          dsimp only
          rw [Rect.mem_set_unit]
          intro a
          fin_cases a <;> simp [ix4] <;> omega
      exact ⟨p, List.mem_of_getElem? hp, hy⟩
    · refine ⟨_, List.mem_of_getElem? (i := 8) rfl, ?_⟩
      dsimp only
      rw [Rect.mem_set_unit]
      intro a
      fin_cases a <;> simp [ix4] <;> omega

/-- The long convolution's rows of one stream: thirty rows of the state, then the chunk. -/
def bufB (I : Ins Ideal) (s : Fin 8) (q : Fin 96) (ch : Fin 256) : EReal :=
  if h : 32 ≤ q.val then pb I s ⟨q.val - 32, by omega⟩ ch else I.x18 (ix4 0 s ⟨(q.val - 2) % 30, Nat.mod_lt _ (by decide)⟩ ch)

/-- Its rows of the chunk. -/
theorem bufB_chunk (I : Ins Ideal) (s s' : Fin 8) (q : Fin 96) (r : Fin 64) (ch ch' : Fin 256) (hs : s'.val = s.val) (hq : q.val = 32 + r.val) (hc : ch'.val = ch.val) :
    pb I s r ch = bufB I s' q ch' := by
  obtain rfl := Fin.ext hs
  obtain rfl := Fin.ext hc
  unfold bufB
  rw [dif_pos (show 32 ≤ q.val by omega)]
  rw [show (⟨q.val - 32, by omega⟩ : Fin 64) = r from Fin.ext (by show q.val - 32 = r.val; omega)]

/-- Its rows of the state. -/
theorem bufB_state (I : Ins Ideal) (s s' : Fin 8) (q : Fin 96) (r : Fin 30) (ch ch' : Fin 256) (hs : s'.val = s.val) (hq : q.val = 2 + r.val) (hc : ch'.val = ch.val) :
    I.x18 (ix4 0 s r ch) = bufB I s' q ch' := by
  obtain rfl := Fin.ext hs
  obtain rfl := Fin.ext hc
  unfold bufB
  rw [dif_neg (show ¬ 32 ≤ q.val by omega)]
  rw [show (⟨(q.val - 2) % 30, Nat.mod_lt _ (by decide)⟩ : Fin 30) = r from Fin.ext (by show (q.val - 2) % 30 = r.val; omega)]

set_option maxHeartbeats 4000000 in
/-- The run's buffer holds it. -/
theorem bufB_read (s : Fin 8) (q : Fin 96) (hq : 2 ≤ q.val) (ch : Fin 256) :
    M.arg28.view.read (Elt Ideal) (M.arg28.view.writes (Elt Ideal) X.x28 (ran.sl.H28_9 c M.arg2 M.arg4 M.arg5 M.arg6 M.arg18 X.x2 X.x4 X.x5 X.x6 X.x18)) (ix4 0 s q ch)
      = bufB X.ins s q ch := by
  refine (View.read_writes_apply_of_pieces M.arg28.view X.x28 (fun y : Shape.Idx S2x8x96x256 => bufB X.ins (y 1) (y 2) (y 3)) _ ?_ (ix4 0 s q ch) ?_).trans rfl
  · dsimp only [ran.sl.H28_9, ran.sl.H28_3, ran.sl.H28_1, ran.sl.v215, ran.sl.v212, ran.sl.r_20, ran.sl.r_19, ran.sl.r, ran.sl.r_18, ran.sl.r_17, ran.sl.r_16, ran.sl.r_15, ran.sl.r_14, ran.sl.r_13, ran.sl.r_12, ran.sl.r_11, ran.sl.r_10, ran.sl.r_9, ran.sl.r_8, ran.sl.r_7, ran.sl.r_6, ran.sl.r_5, ran.sl.v225]
    simp only [List.forall_mem_cons]
    refine ⟨?_, ?_, ?_, ?_, ?_, ?_, ?_, ?_, ?_, List.forall_mem_nil _⟩
    all_goals
      intro y
      idx_vars y
      unfold_payloads
      pointwise [View.readAt_apply]
      try simp only [pb_0, pb_1, pb_2, pb_3, pb_4, pb_5, pb_6, pb_7, hb_0, hb_1, hb_2, hb_3, hb_4, hb_5, hb_6, hb_7, Cert.Common.sigmoid_word, ← Nat.add_assoc, Nat.reduceAdd]
      first
      | refine bufB_state X.ins y1 _ _ y2 y3 _ ?_ ?_ ?_ <;> (rw [emb_val]; simp [ix4] <;> omega)
      | refine bufB_chunk X.ins _ _ _ _ _ _ ?_ ?_ ?_ <;> (rw [emb_val]; simp [ix4] <;> omega)
      | refine bufB_chunk X.ins 0 _ _ y2 y3 _ ?_ ?_ ?_ <;> (rw [emb_val]; simp [ix4] <;> omega)
  · by_cases h : 32 ≤ q.val
    · obtain ⟨p, hp, hy⟩ : ∃ p, (ran.sl.H28_9 c M.arg2 M.arg4 M.arg5 M.arg6 M.arg18 X.x2 X.x4 X.x5 X.x6 X.x18)[7 - s.val]? = some p ∧ (ix4 0 s q ch : Shape.Idx S2x8x96x256) ∈ p.1.set := by
        match s with
        | 0 | 1 | 2 | 3 | 4 | 5 | 6 | 7 =>
          refine ⟨_, rfl, ?_⟩
          dsimp only
          rw [Rect.mem_set_unit]
          intro a
          fin_cases a <;> simp [ix4] <;> omega
      exact ⟨p, List.mem_of_getElem? hp, hy⟩
    · refine ⟨_, List.mem_of_getElem? (i := 8) rfl, ?_⟩
      dsimp only
      rw [Rect.mem_set_unit]
      intro a
      fin_cases a <;> simp [ix4] <;> omega

end Cert.KernelIdeal.Hand

end
-- ==== Proof.Mixer.BufQ.lean ====
module

public import proofs.«01_k».proof.Proof.Mixer.Cols
public import Idealize.ShloMosaic.Lib.Pointwise
public import Idealize.ShloMosaic.Lib.Pipeline.ValueKit
public import proofs.«01_k».proof.Proof.Common.Sigmoid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (c : Dev nD) (M : Mems) (X : Held Ideal c M)

/-- A column of the q, k and v projections. -/
abbrev pq (I : Ins Ideal) (s : Fin 8) (r : Fin 64) (ch : Fin 1536) : EReal :=
  col I s r ⟨1280 + ch.val, by omega⟩

/-- The q, k and v convolution's rows of one stream: three rows of the state, then the chunk. -/
def bufQ (I : Ins Ideal) (s : Fin 8) (q : Fin 72) (ch : Fin 1536) : EReal :=
  if h : 8 ≤ q.val then pq I s ⟨q.val - 8, by omega⟩ ch else I.x19 (ix4 0 s ⟨(q.val - 5) % 3, Nat.mod_lt _ (by decide)⟩ ch)

/-- Its rows of the chunk. -/
theorem bufQ_chunk (I : Ins Ideal) (s s' : Fin 8) (q : Fin 72) (r : Fin 64) (n : Fin 3456) (ch' : Fin 1536) (hs : s'.val = s.val) (hq : q.val = 8 + r.val) (hc : 1280 + ch'.val = n.val) :
    col I s r n = bufQ I s' q ch' := by
  obtain rfl := Fin.ext hs
  obtain rfl : n = ⟨1280 + ch'.val, Nat.lt_of_lt_of_le (Nat.add_lt_add_left ch'.isLt 1280) (by decide)⟩ := Fin.ext hc.symm
  unfold bufQ
  rw [dif_pos (show 8 ≤ q.val by omega)]
  rw [show (⟨q.val - 8, by omega⟩ : Fin 64) = r from Fin.ext (by show q.val - 8 = r.val; omega)]

/-- Its rows of the state. -/
theorem bufQ_state (I : Ins Ideal) (s s' : Fin 8) (q : Fin 72) (r : Fin 3) (ch ch' : Fin 1536) (hs : s'.val = s.val) (hq : q.val = 5 + r.val) (hc : ch'.val = ch.val) :
    I.x19 (ix4 0 s r ch) = bufQ I s' q ch' := by
  obtain rfl := Fin.ext hs
  obtain rfl := Fin.ext hc
  unfold bufQ
  rw [dif_neg (show ¬ 8 ≤ q.val by omega)]
  rw [show (⟨(q.val - 5) % 3, Nat.mod_lt _ (by decide)⟩ : Fin 3) = r from Fin.ext (by show (q.val - 5) % 3 = r.val; omega)]

/-- A slice of 64 rows with two unit axes put in front, read at an index. -/
theorem slice_q (Z : FVec Ideal S512x256 .f32) (s0 : ℕ) (hs0 : s0 + 64 ≤ 512) (sl h3) (y0 y1 : Fin 1) (y2 : Fin 64) (y3 : Fin 256) :
    (shapeCast S1x1x64x256 (extractStridedSlice S64x256 ![s0, 0] Z sl : FVec Ideal S64x256 .f32) h3 : FVec Ideal S1x1x64x256 .f32) (ix4 y0 y1 y2 y3)
      = Z (ix2 ⟨s0 + y2.val, by omega⟩ y3) := by
  pointwise

/-- A block of 256 columns of a matrix times the rows, read at an index. -/
theorem prod_q (A : FVec Ideal S512x1024 .bf16) (W : FVec Ideal S1x1024x256 .bf16) (h1) (r : Fin 512) (e : Fin 256) :
    matmul dot_S512x1024_S1024x256_S512x256_1_0_0_1_n_n none A (shapeCast S1024x256 W h1 : FVec Ideal S1024x256 .bf16) (constant S512x256 .f32 0#32) (ix2 r e)
      = ∑ k, A (ix2 r k) * W (ix3 0 k e) := by
  pointwise

/-- A block of 256 columns of W_in, read at an index. -/
theorem cols_q (o : ℕ) (ho : o + 256 ≤ 3456) (inb) (k : Fin 1024) (e : Fin 256) :
    View.readAt (Elt Ideal) M.arg6.view (Rect.unit (s := S1x1024x3456) ![0, 0, o] ![1, 1024, 256] inb).toLoadRect X.x6 (ix3 0 k e) = X.ins.x6 (ix3 0 k ⟨o + e.val, by omega⟩) := by
  pointwise [View.readAt_apply, Held.ins]

/-- A piece of 256 columns of one stream's rows of the projections. -/
theorem piece_q (s0 o : ℕ) (ho : o + 256 ≤ 3456) (inb) (h1 sl h3) (y : Shape.Idx S1x1x64x256) (s : Fin 8) (q' : Fin 72) (ch' : Fin 1536)
    (h0 : s0 = 64 * s.val) (hq : q'.val = 8 + (y 2).val) (hc : 1280 + ch'.val = o + (y 3).val) :
    shapeCast S1x1x64x256
      (extractStridedSlice S64x256 ![s0, 0]
        (matmul dot_S512x1024_S1024x256_S512x256_1_0_0_1_n_n none (ran.sl.r_20 c M.arg2 M.arg4 M.arg5 X.x2 X.x4 X.x5)
          (shapeCast S1024x256
            (View.readAt (Elt Ideal) M.arg6.view (Rect.unit (s := S1x1024x3456) ![0, 0, o] ![1, 1024, 256] inb).toLoadRect X.x6 : FVec Ideal S1x1024x256 .bf16) h1 : FVec Ideal S1024x256 .bf16)
          (constant S512x256 .f32 0#32)) sl) h3 y = bufQ X.ins s q' ch' := by
  subst h0
  idx_vars y
  refine (slice_q _ (64 * s.val) (by omega) sl h3 y0 y1 y2 y3).trans ?_
  refine (prod_q _ _ h1 _ _).trans ?_
  refine Eq.trans (Finset.sum_congr rfl fun k _ => congrArg₂ (· * ·) (hb_apply c M X s y2 k) (cols_q c M X o ho inb k y3)) ?_
  exact bufQ_chunk X.ins s s q' y2 ⟨o + y3.val, by omega⟩ ch' rfl hq hc

set_option maxHeartbeats 40000000 in
/-- The run's buffer holds it. -/
theorem bufQ_read (s : Fin 8) (q : Fin 72) (hq : 5 ≤ q.val) (ch : Fin 1536) :
    M.arg29.view.read (Elt Ideal) (M.arg29.view.writes (Elt Ideal) X.x29 (ran.sl.H29_49 c M.arg2 M.arg4 M.arg5 M.arg6 M.arg19 X.x2 X.x4 X.x5 X.x6 X.x19)) (ix4 0 s q ch)
      = bufQ X.ins s q ch := by
  refine (View.read_writes_apply_of_pieces M.arg29.view X.x29 (fun y : Shape.Idx S2x8x72x1536 => bufQ X.ins (y 1) (y 2) (y 3)) _ ?_ (ix4 0 s q ch) ?_).trans rfl
  · dsimp only [ran.sl.H29_49, ran.sl.H29_43, ran.sl.H29_37, ran.sl.H29_31, ran.sl.H29_25, ran.sl.H29_19, ran.sl.H29_13, ran.sl.H29_7, ran.sl.H29_1, ran.sl.v220, ran.sl.v217, ran.sl.cst_294, ran.sl.r_25, ran.sl.r_27, ran.sl.r_26, ran.sl.r_29, ran.sl.r_28, ran.sl.r_31, ran.sl.r_30, ran.sl.v655, ran.sl.r_33, ran.sl.v659, ran.sl.v656, ran.sl.r_32, ran.sl.v663, ran.sl.v660, ran.sl.v667, ran.sl.v664, ran.sl.v671, ran.sl.v668, ran.sl.v675, ran.sl.v672, ran.sl.v679, ran.sl.v676, ran.sl.r_35, ran.sl.r_34, ran.sl.r_37, ran.sl.r_36]
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, List.forall_mem_nil _⟩
    iterate 48 (rotate_left 1)
    · intro y
      idx_vars y
      unfold_payloads
      pointwise [View.readAt_apply]
      refine bufQ_state X.ins y1 _ _ y2 y3 _ ?_ ?_ ?_ <;> (rw [emb_val]; simp [ix4] <;> omega)
    all_goals
      intro y
      unfold_payloads
      refine piece_q c M X _ _ ?_ _ _ _ _ y _ _ _ ?_ ?_ ?_
      · decide
      · rw [emb_val]; simp
      · rw [emb_val]; simp
      · rw [emb_val]; simp <;> omega
  · by_cases h : 8 ≤ q.val
    · obtain ⟨j, e, he⟩ : ∃ (j : Fin 6) (e : Fin 256), ch.val = 256 * j.val + e.val := ⟨⟨ch.val / 256, by omega⟩, ⟨ch.val % 256, Nat.mod_lt _ (by decide)⟩, (Nat.div_add_mod _ _).symm⟩
      obtain ⟨p, hp, hy⟩ : ∃ p, (ran.sl.H29_49 c M.arg2 M.arg4 M.arg5 M.arg6 M.arg19 X.x2 X.x4 X.x5 X.x6 X.x19)[47 - (8 * j.val + s.val)]? = some p ∧ (ix4 0 s q ch : Shape.Idx S2x8x72x1536) ∈ p.1.set := by
        match j, s with
        | 0, 0 | 0, 1 | 0, 2 | 0, 3 | 0, 4 | 0, 5 | 0, 6 | 0, 7 | 1, 0 | 1, 1 | 1, 2 | 1, 3 | 1, 4 | 1, 5 | 1, 6 | 1, 7 | 2, 0 | 2, 1 | 2, 2 | 2, 3 | 2, 4 | 2, 5 | 2, 6 | 2, 7 | 3, 0 | 3, 1 | 3, 2 | 3, 3 | 3, 4 | 3, 5 | 3, 6 | 3, 7 | 4, 0 | 4, 1 | 4, 2 | 4, 3 | 4, 4 | 4, 5 | 4, 6 | 4, 7 | 5, 0 | 5, 1 | 5, 2 | 5, 3 | 5, 4 | 5, 5 | 5, 6 | 5, 7 =>
          refine ⟨_, rfl, ?_⟩
          dsimp only
          rw [Rect.mem_set_unit]
          intro a
          fin_cases a <;> simp [ix4] <;> omega
      exact ⟨p, List.mem_of_getElem? hp, hy⟩
    · refine ⟨_, List.mem_of_getElem? (i := 48) rfl, ?_⟩
      dsimp only
      rw [Rect.mem_set_unit]
      intro a
      fin_cases a <;> simp [ix4] <;> omega

end Cert.KernelIdeal.Hand

end
-- ==== Proof.Mixer.Outs.lean ====
module

public import proofs.«01_k».proof.Proof.Mixer.BufAB
public import proofs.«01_k».proof.Proof.Mixer.BufQ
public import Idealize.ShloMosaic.Lib.Pointwise
public import Idealize.ShloMosaic.Lib.WritesUnit
public import Idealize.ShloMosaic.Lib.Pipeline.ValueKit
public import proofs.«01_k».proof.Proof.Common.Sigmoid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (c : Dev nD) (M : Mems) (X : Held Ideal c M)

/-- The state the run writes for the short convolution: the last rows of its buffer. -/
theorem na_read (i : grid0.Coords) (h1 : k0_cond1 i = 1#1) (h2 : k0_cond2 i = 1#1) (s : Fin 8) (j : Fin 2) (ch : Fin 256) :
    (outsOf c i h1 h2 M X).na (ix3 s j ch) = bufA X.ins s ⟨70 + j.val, by omega⟩ ch := by
  have hi : (i 1).val = 0 := Nat.lt_one_iff.1 (i 1).isLt
  dsimp only [outsOf, ranM]
  delta ran
  dsimp only
  refine (View.read_writes_cons_unit_of_mem (s := S8x2x256) (off := ![0, 0, 0]) (size := ![8, 2, 256]) M.arg22.view X.x22 inb_S8x2x256_S8x2x256_0_0_0 _ [] (ix3 s j ch) (ix3 s j ch) rfl (by intro a; fin_cases a <;> simp [ix3])).trans ?_
  unfold k0_pay1 ran.sl.v207_1
  pointwise [View.readAt_apply]
  have h0 : ∀ x : Fin 4, k0_off30 i x = (![0, 0, 70, 0] : Fin 4 → ℕ) x := fun x => by rw [k0_off30_eq, hi]
  refine (View.read_writes_cons_unit_of_not_mem _ _ _ _ _ _ (k0_off14_eq i) 0 (.inl ?_)).trans ?_
  · show k0_off30 i 0 < 1 - (i 1).val
    rw [h0 0, hi]
    exact Nat.zero_lt_one
  · refine Eq.trans (congrArg _ ?_) (bufA_read c M X s ⟨70 + j.val, by omega⟩ (show 6 ≤ 70 + j.val by omega) ch)
    congr 1
    · exact Fin.ext (h0 0)
    · exact Fin.ext ((congrArg (· + s.val) (h0 1)).trans (Nat.zero_add _))
    · exact Fin.ext ((congrArg (· + ch.val) (h0 3)).trans (Nat.zero_add _))

/-- The state the run writes for the long convolution: the last rows of its buffer. -/
theorem nb_read (i : grid0.Coords) (h1 : k0_cond1 i = 1#1) (h2 : k0_cond2 i = 1#1) (s : Fin 8) (j : Fin 30) (ch : Fin 256) :
    (outsOf c i h1 h2 M X).nb (ix3 s j ch) = bufB X.ins s ⟨66 + j.val, by omega⟩ ch := by
  have hi : (i 1).val = 0 := Nat.lt_one_iff.1 (i 1).isLt
  dsimp only [outsOf, ranM]
  delta ran
  dsimp only
  refine (View.read_writes_cons_unit_of_mem (s := S8x30x256) (off := ![0, 0, 0]) (size := ![8, 30, 256]) M.arg23.view X.x23 inb_S8x30x256_S8x30x256_0_0_0 _ [] (ix3 s j ch) (ix3 s j ch) rfl (by intro a; fin_cases a <;> simp [ix3])).trans ?_
  unfold k0_pay2 ran.sl.v211
  pointwise [View.readAt_apply]
  have h0 : ∀ x : Fin 4, k0_off31 i x = (![0, 0, 66, 0] : Fin 4 → ℕ) x := fun x => by rw [k0_off31_eq, hi]
  refine (View.read_writes_cons_unit_of_not_mem _ _ _ _ _ _ (k0_off16_eq i) 0 (.inl ?_)).trans ?_
  · show k0_off31 i 0 < 1 - (i 1).val
    rw [h0 0, hi]
    exact Nat.zero_lt_one
  · refine Eq.trans (congrArg _ ?_) (bufB_read c M X s ⟨66 + j.val, by omega⟩ (show 2 ≤ 66 + j.val by omega) ch)
    congr 1
    · exact Fin.ext (h0 0)
    · exact Fin.ext ((congrArg (· + s.val) (h0 1)).trans (Nat.zero_add _))
    · exact Fin.ext ((congrArg (· + ch.val) (h0 3)).trans (Nat.zero_add _))

/-- The state the run writes for the q, k and v convolution: the last rows of its buffer. -/
theorem nq_read (i : grid0.Coords) (h1 : k0_cond1 i = 1#1) (h2 : k0_cond2 i = 1#1) (s : Fin 8) (j : Fin 3) (ch : Fin 1536) :
    (outsOf c i h1 h2 M X).nq (ix3 s j ch) = bufQ X.ins s ⟨69 + j.val, by omega⟩ ch := by
  have hi : (i 1).val = 0 := Nat.lt_one_iff.1 (i 1).isLt
  dsimp only [outsOf, ranM]
  delta ran
  dsimp only
  refine (View.read_writes_cons_unit_of_mem (s := S8x3x1536) (off := ![0, 0, 0]) (size := ![8, 3, 1536]) M.arg24.view X.x24 inb_S8x3x1536_S8x3x1536_0_0_0 _ [] (ix3 s j ch) (ix3 s j ch) rfl (by intro a; fin_cases a <;> simp [ix3])).trans ?_
  unfold k0_pay3 ran.sl.v215_1
  pointwise [View.readAt_apply]
  have h0 : ∀ x : Fin 4, k0_off32 i x = (![0, 0, 69, 0] : Fin 4 → ℕ) x := fun x => by rw [k0_off32_eq, hi]
  refine (View.read_writes_cons_unit_of_not_mem _ _ _ _ _ _ (k0_off18_eq i) 0 (.inl ?_)).trans ?_
  · show k0_off32 i 0 < 1 - (i 1).val
    rw [h0 0, hi]
    exact Nat.zero_lt_one
  · refine Eq.trans (congrArg _ ?_) (bufQ_read c M X s ⟨69 + j.val, by omega⟩ (show 5 ≤ 69 + j.val by omega) ch)
    congr 1
    · exact Fin.ext (h0 0)
    · exact Fin.ext ((congrArg (· + s.val) (h0 1)).trans (Nat.zero_add _))
    · exact Fin.ext ((congrArg (· + ch.val) (h0 3)).trans (Nat.zero_add _))

end Cert.KernelIdeal.Hand

end
-- ==== Proof.Mixer.Value.lean ====
/- The convolution states the mixer's launch leaves equal the reference's. -/
module
public import proofs.«01_k».proof.Defs
public import proofs.«01_k».proof.Proof.Gen.MixerRefIdeal.Run
public import proofs.«01_k».proof.Proof.Mixer.Args
public import proofs.«01_k».proof.Proof.Mixer.Run
public import Idealize.ShloMosaic.Lib.Pipeline.ArrRel
public import proofs.«01_k».proof.Proof.Mixer.Outs
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

/-- What the value claim asks of the written blocks: the three states, as columns of the block's projections. -/
def states : Asked Ideal where
  o _ _ := True
  na I O := ∀ (s : Fin 8) (j : Fin 2) (ch : Fin 256), O (ix3 s j ch) = pa I s ⟨62 + j.val, by omega⟩ ch
  nb I O := ∀ (s : Fin 8) (j : Fin 30) (ch : Fin 256), O (ix3 s j ch) = pb I s ⟨34 + j.val, by omega⟩ ch
  nq I O := ∀ (s : Fin 8) (j : Fin 3) (ch : Fin 1536), O (ix3 s j ch) = col I s ⟨61 + j.val, by omega⟩ ⟨1280 + ch.val, by omega⟩
  ns _ _ := True

/-- The body's run writes them. -/
theorem states_run : BodyRuns (F := Ideal) states :=
  run_of states fun c i h1 h2 M X =>
    ⟨trivial,
      fun s j ch => (na_read c M X i h1 h2 s j ch).trans (bufA_chunk X.ins s s ⟨70 + j.val, by omega⟩ ⟨62 + j.val, by omega⟩ ch ch rfl (by show 70 + j.val = 8 + (62 + j.val); omega) rfl).symm,
      fun s j ch => (nb_read c M X i h1 h2 s j ch).trans (bufB_chunk X.ins s s ⟨66 + j.val, by omega⟩ ⟨34 + j.val, by omega⟩ ch ch rfl (by show 66 + j.val = 32 + (34 + j.val); omega) rfl).symm,
      fun s j ch => (nq_read c M X i h1 h2 s j ch).trans (bufQ_chunk X.ins s s ⟨69 + j.val, by omega⟩ ⟨61 + j.val, by omega⟩ ⟨1280 + ch.val, by omega⟩ ch rfl (by show 69 + j.val = 8 + (61 + j.val); omega) rfl).symm,
      trivial⟩

variable (m : (ℓ : Loc nD τ sig) → Buf (Elt Ideal) ℓ)

set_option maxHeartbeats 2000000 in
open Cert.MixerRefIdeal.Read Cert.MixerRefIdeal.Hand in
/-- After a run of the launch the three state arrays are the reference's. -/
theorem states_eq {r : PUnit × MemSt nD τ sig (Elt Ideal)}
    (h : Pipeline.RDat.FramePost (cfgs 0) (fun c => (dats m 0 c).toRRel written (Rl m states c)) (V m) r) (c : Dev nD) :
      r.2.mem ((c.tc : Thread nD τ).loc main_v36_1) = val_main_v55 (F := Ideal) (m ((c : Thread nD τ).loc main_arg0)) (m ((c : Thread nD τ).loc main_arg1)) (m ((c : Thread nD τ).loc main_arg2)) (m ((c : Thread nD τ).loc main_arg6)) (m ((c : Thread nD τ).loc main_arg7))
      ∧ r.2.mem ((c.tc : Thread nD τ).loc main_v36_2) = val_main_v61 (F := Ideal) (m ((c : Thread nD τ).loc main_arg0)) (m ((c : Thread nD τ).loc main_arg1)) (m ((c : Thread nD τ).loc main_arg3)) (m ((c : Thread nD τ).loc main_arg6)) (m ((c : Thread nD τ).loc main_arg7))
      ∧ r.2.mem ((c.tc : Thread nD τ).loc main_v36_3) = val_main_v68 (F := Ideal) (m ((c : Thread nD τ).loc main_arg0)) (m ((c : Thread nD τ).loc main_arg1)) (m ((c : Thread nD τ).loc main_arg4)) (m ((c : Thread nD τ).loc main_arg6)) (m ((c : Thread nD τ).loc main_arg7)) := by
  obtain ⟨after, hl, ha⟩ := Pipeline.RDat.FramePost.exists_exact h c
  refine ⟨(ha 20).trans ?_, (ha 21).trans ?_, (ha 22).trans ?_⟩
  · refine Pipeline.Dat.arrAt_eq_of_covers _ 20 _ (by decide +kernel) fun t hf y => ?_
    have hm : states.na (insAt m c t) (after 20 t) := Pipeline.Dat.toRRel_leaves _ rfl (hl 20 t hf)
    obtain ⟨h20, h21, h22, h0, h2, h3, h4⟩ := idx_facts t
    blk_simp
    idx_vars y
    refine (hm y0 y1 y2).trans ?_
    have e : ∀ g : Shape.Idx S32x2x256 → EReal, g ((win0_20.blk t).view.emb (ix3 y0 y1 y2)) = g (ix3 ⟨8 * t.val + y0.val, by have : t.val < 4 := t.isLt; omega⟩ y1 y2) := fun g => by
      blk_ext [h20]
    refine Eq.trans ?_ (e _).symm
    refine Eq.trans ?_ (v55_apply _ _ _ _ _ _ _ _).symm
    exact congrArg₂ (· * ·) (col_eq m c t y0 ⟨62 + y1.val, by omega⟩ ⟨512 + y2.val, by omega⟩) (col_eq m c t y0 ⟨62 + y1.val, by omega⟩ ⟨y2.val, by omega⟩)
  · refine Pipeline.Dat.arrAt_eq_of_covers _ 21 _ (by decide +kernel) fun t hf y => ?_
    have hm : states.nb (insAt m c t) (after 21 t) := Pipeline.Dat.toRRel_leaves _ rfl (hl 21 t hf)
    obtain ⟨h20, h21, h22, h0, h2, h3, h4⟩ := idx_facts t
    blk_simp
    idx_vars y
    refine (hm y0 y1 y2).trans ?_
    have e : ∀ g : Shape.Idx S32x30x256 → EReal, g ((win0_21.blk t).view.emb (ix3 y0 y1 y2)) = g (ix3 ⟨8 * t.val + y0.val, by have : t.val < 4 := t.isLt; omega⟩ y1 y2) := fun g => by
      blk_ext [h21]
    refine Eq.trans ?_ (e _).symm
    refine Eq.trans ?_ (v61_apply _ _ _ _ _ _ _ _).symm
    exact congrArg₂ (fun a b => a * Ideal.div 1 (1 + Ideal.exp (-b))) (col_eq m c t y0 ⟨34 + y1.val, by omega⟩ ⟨768 + y2.val, by omega⟩) (col_eq m c t y0 ⟨34 + y1.val, by omega⟩ ⟨1024 + y2.val, by omega⟩)
  · refine Pipeline.Dat.arrAt_eq_of_covers _ 22 _ (by decide +kernel) fun t hf y => ?_
    have hm : states.nq (insAt m c t) (after 22 t) := Pipeline.Dat.toRRel_leaves _ rfl (hl 22 t hf)
    obtain ⟨h20, h21, h22, h0, h2, h3, h4⟩ := idx_facts t
    blk_simp
    idx_vars y
    refine (hm y0 y1 y2).trans ?_
    have e : ∀ g : Shape.Idx S32x3x1536 → EReal, g ((win0_22.blk t).view.emb (ix3 y0 y1 y2)) = g (ix3 ⟨8 * t.val + y0.val, by have : t.val < 4 := t.isLt; omega⟩ y1 y2) := fun g => by
      blk_ext [h22]
    refine Eq.trans ?_ (e _).symm
    refine Eq.trans ?_ (v68_apply _ _ _ _ _ _ _ _).symm
    exact col_eq m c t y0 ⟨61 + y1.val, by omega⟩ ⟨1280 + y2.val, by omega⟩
/-- The kernel's run and the reference's run end with equal state arrays. -/
theorem algebraic : Cert.algebraic_KernelIdeal_MixerRefIdeal := by
  intro m g m' g' _ hm
  refine ⟨fun c => Cert.MixerRefIdeal.Read.val_main_v55 (F := Ideal) (m ((c : Thread nD τ).loc main_arg0)) (m ((c : Thread nD τ).loc main_arg1)) (m ((c : Thread nD τ).loc main_arg2)) (m ((c : Thread nD τ).loc main_arg6)) (m ((c : Thread nD τ).loc main_arg7)),
    fun c => Cert.MixerRefIdeal.Read.val_main_v61 (F := Ideal) (m ((c : Thread nD τ).loc main_arg0)) (m ((c : Thread nD τ).loc main_arg1)) (m ((c : Thread nD τ).loc main_arg3)) (m ((c : Thread nD τ).loc main_arg6)) (m ((c : Thread nD τ).loc main_arg7)),
    fun c => Cert.MixerRefIdeal.Read.val_main_v68 (F := Ideal) (m ((c : Thread nD τ).loc main_arg0)) (m ((c : Thread nD τ).loc main_arg1)) (m ((c : Thread nD τ).loc main_arg4)) (m ((c : Thread nD τ).loc main_arg6)) (m ((c : Thread nD τ).loc main_arg7)),
    (θ_run _ _ _).mono (fun r h c => ?_) (run_main m g states states_run), (θ_run _ _ _).mono (fun r h c => ?_) (Cert.MixerRefIdeal.Value.run m' g')⟩
  · obtain ⟨s1, s2, s3⟩ := states_eq m h.1 c
    exact ⟨s1, s2, s3, args_kept m states h.1 c⟩
  · obtain ⟨e0, e1, e2, e3, e4, e5, e6, e7, -⟩ := hm c
    obtain ⟨r1, r2, r3, hk⟩ := h c
    refine ⟨r1.trans ?_, r2.trans ?_, r3.trans ?_, hk⟩
    · refine (Cert.MixerRefIdeal.Read.val_main_v55_eq _ _ _ _ _).trans ?_
      rw [e0, e1, e2, e6, e7]
    · refine (Cert.MixerRefIdeal.Read.val_main_v61_eq m' c).trans ?_
      rw [e0, e1, e3, e6, e7]
    · refine (Cert.MixerRefIdeal.Read.val_main_v68_eq m' c).trans ?_
      rw [e0, e1, e4, e6, e7]
end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstIdeal.Value
public import proofs.«01_k».proof.Proof.Gen.FfnFirstRefIdeal
public import proofs.«01_k».proof.Proof.Gen.FfnFirstRefIdeal.Run
public import proofs.«01_k».proof.Proof.Gen.FfnFirstRefIdeal.Read
public import proofs.«01_k».proof.Proof.Ada.Value
public import proofs.«01_k».proof.Proof.Ffn.Value
public import proofs.«01_k».proof.Proof.FfnFirst.Value
public import proofs.«01_k».proof.Proof.FfnSample.Value
public import proofs.«01_k».proof.Proof.Mixer.Frames
public import proofs.«01_k».proof.Proof.Mixer.Value
public import Idealize.ShloMosaic.Adequacy
public import Idealize.ShloMosaic.Init

@[expose] public section

noncomputable section

namespace Cert.Proof

open Idealize.ShloMosaic Idealize.SL.Sem

/-- The feed-forward reference runs to its end, its arguments unchanged and every counter zero. -/
theorem frame_ffnRef : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The mixer's reference runs to its end, its arguments unchanged and every counter zero. -/
theorem frame_mixerRef : Cert.quiescent_MixerRefIdeal := fun m ρ _ =>
  (θ_run Cert.MixerRefIdeal.defs _ _).mono (fun r h => ⟨fun c => (h c).2.2.2,
      Idealize.ShloMosaic.sem_eq_zero_of_no_sems (by decide) r.2⟩)
    (Cert.MixerRefIdeal.Value.run (F := Ideal) m ρ)

/-- The sample's feed-forward reference runs to its end, its arguments unchanged and every counter zero. -/
theorem frame_ffnSampleRef : Cert.quiescent_FfnSampleRefIdeal := fun m ρ _ =>
  (θ_run Cert.FfnSampleRefIdeal.defs _ _).mono (fun r h => ⟨fun c => (h c).2,
      Idealize.ShloMosaic.sem_eq_zero_of_no_sems (by decide) r.2⟩)
    (Cert.FfnSampleRefIdeal.Value.run (F := Ideal) m ρ)

/-- The modulation's reference runs to its end, its arguments unchanged and every counter zero. -/
theorem frame_adaRef : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- The first layer's feed-forward reference runs to its end, its arguments unchanged and every counter zero. -/
theorem frame_ffnFirstRef : Cert.quiescent_FfnFirstRefIdeal := fun m ρ _ =>
  (θ_run Cert.FfnFirstRefIdeal.defs _ _).mono (fun r h => ⟨fun c => (h c).2,
      Idealize.ShloMosaic.sem_eq_zero_of_no_sems (by decide) r.2⟩)
    (Cert.FfnFirstRefIdeal.Value.run (F := Ideal) m ρ)

/-- Everything claimed. -/
theorem claim : Cert.Claim :=
  ⟨Cert.Kernel.Gen.facts, Cert.KernelIdeal.Gen.facts, Cert.MixerRefIdeal.Gen.facts, Cert.Ffn.Gen.facts, Cert.FfnIdeal.Gen.facts, Cert.FfnRefIdeal.Gen.facts,
    Cert.FfnSample.Gen.facts, Cert.FfnSampleIdeal.Gen.facts, Cert.FfnSampleRefIdeal.Gen.facts,
    Cert.Ada.Gen.facts, Cert.AdaIdeal.Gen.facts, Cert.AdaRefIdeal.Gen.facts,
    Cert.FfnFirst.Gen.facts, Cert.FfnFirstIdeal.Gen.facts, Cert.FfnFirstRefIdeal.Gen.facts,
    Cert.Same.frame_mixer, Cert.Same.frame_mixerIdeal, frame_mixerRef, fun m ρ _ => Cert.Ffn.Gen.frame m ρ, fun m ρ _ => Cert.FfnIdeal.Gen.frame m ρ, frame_ffnRef,
    fun m ρ _ => Cert.FfnSample.Gen.frame m ρ, fun m ρ _ => Cert.FfnSampleIdeal.Gen.frame m ρ, frame_ffnSampleRef,
    fun m ρ _ => Cert.Ada.Gen.frame m ρ, fun m ρ _ => Cert.AdaIdeal.Gen.frame m ρ, frame_adaRef,
    fun m ρ _ => Cert.FfnFirst.Gen.frame m ρ, fun m ρ _ => Cert.FfnFirstIdeal.Gen.frame m ρ, frame_ffnFirstRef,
    trivial, Cert.KernelIdeal.Hand.algebraic, trivial, Cert.FfnIdeal.Hand.algebraic, trivial, Cert.FfnSampleIdeal.Hand.algebraic, trivial, Cert.AdaIdeal.Hand.algebraic, trivial, Cert.FfnFirstIdeal.Hand.algebraic⟩

end Cert.Proof

end
